-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v21)) (v2 : (c : Dev Cert.KernelIdeal.nD) → Buf (Elt Ideal) ((c.tc : Thread Cert.KernelIdeal.nD Cert.KernelIdeal.τ).loc Cert.KernelIdeal.main_v4_0)) (v3 : (c : Dev Cert.KernelIdeal.nD) → Buf (Elt Ideal) ((c.tc : Thread Cert.KernelIdeal.nD Cert.KernelIdeal.τ).loc Cert.KernelIdeal.main_v4_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v21) = v1 c
          ∧ r.2.mem ((c.tc : Thread Cert.KernelIdeal.nD Cert.KernelIdeal.τ).loc Cert.KernelIdeal.main_v4_0) = v2 c
          ∧ r.2.mem ((c.tc : Thread Cert.KernelIdeal.nD Cert.KernelIdeal.τ).loc Cert.KernelIdeal.main_v4_1) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_indices) = v2 c
          ∧ r.2.mem ((c.tc : Thread Cert.ReferenceIdeal.nD Cert.ReferenceIdeal.τ).loc Cert.ReferenceIdeal.main_indices_4) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S64x8192x128 : Shape := ⟨3, ![64, 8192, 128]⟩
abbrev S64x1x128 : Shape := ⟨3, ![64, 1, 128]⟩
abbrev S_ : Shape := ⟨0, ![]⟩
abbrev S64x8192 : Shape := ⟨2, ![64, 8192]⟩
abbrev S64x1x8192 : Shape := ⟨3, ![64, 1, 8192]⟩
abbrev S1x8192x128 : Shape := ⟨3, ![1, 8192, 128]⟩
abbrev S1x1x128 : Shape := ⟨3, ![1, 1, 128]⟩
abbrev S1x1x8192 : Shape := ⟨3, ![1, 1, 8192]⟩
abbrev S8192x128 : Shape := ⟨2, ![8192, 128]⟩
abbrev S1x128 : Shape := ⟨2, ![1, 128]⟩
abbrev S1 : Shape := ⟨1, ![1]⟩
abbrev S1x1x1 : Shape := ⟨3, ![1, 1, 1]⟩
abbrev S1x8192 : Shape := ⟨2, ![1, 8192]⟩
abbrev S8192x1 : Shape := ⟨2, ![8192, 1]⟩
abbrev S8192 : Shape := ⟨1, ![8192]⟩
abbrev S64x64 : Shape := ⟨2, ![64, 64]⟩
abbrev S64 : Shape := ⟨1, ![64]⟩
abbrev S64x1 : Shape := ⟨2, ![64, 1]⟩
abbrev S128x64 : Shape := ⟨2, ![128, 64]⟩
abbrev S524288x128 : Shape := ⟨2, ![524288, 128]⟩
abbrev S256 : Shape := ⟨1, ![256]⟩
abbrev S256x128 : Shape := ⟨2, ![256, 128]⟩
abbrev S2x64x64x128 : Shape := ⟨4, ![2, 64, 64, 128]⟩
abbrev S1x64x64x128 : Shape := ⟨4, ![1, 64, 64, 128]⟩
abbrev S64x64x128 : Shape := ⟨3, ![64, 64, 128]⟩

abbrev nBuf : Table → Nat
  | .hbm => 29
  | .local .tc .vmem => 13
  | .local .scVector .vmem => 2
  | _ => 0

abbrev bufTy : (tb : Table) → Fin (nBuf tb) → BufTy
  | .hbm, ⟨0, _⟩ => ⟨S64x8192x128, .f32⟩
  | .hbm, ⟨1, _⟩ => ⟨S64x1x128, .f32⟩
  | .hbm, ⟨2, _⟩ => ⟨S64x8192x128, .f32⟩
  | .hbm, ⟨3, _⟩ => ⟨S_, .f32⟩
  | .hbm, ⟨4, _⟩ => ⟨S64x8192, .f32⟩
  | .hbm, ⟨5, _⟩ => ⟨S64x8192, .f32⟩
  | .hbm, ⟨6, _⟩ => ⟨S64x1x8192, .f32⟩
  | .hbm, ⟨7, _⟩ => ⟨S64x1x8192, .f32⟩
  | .hbm, ⟨8, _⟩ => ⟨S64x8192, .f32⟩
  | .hbm, ⟨9, _⟩ => ⟨S64x64, .i32⟩
  | .hbm, ⟨10, _⟩ => ⟨S64x64, .i32⟩
  | .hbm, ⟨11, _⟩ => ⟨S64, .i32⟩
  | .hbm, ⟨12, _⟩ => ⟨S_, .i32⟩
  | .hbm, ⟨13, _⟩ => ⟨S64, .i32⟩
  | .hbm, ⟨14, _⟩ => ⟨S64, .i32⟩
  | .hbm, ⟨15, _⟩ => ⟨S64x1, .i32⟩
  | .hbm, ⟨16, _⟩ => ⟨S64x64, .i32⟩
  | .hbm, ⟨17, _⟩ => ⟨S64x64, .i32⟩
  | .hbm, ⟨18, _⟩ => ⟨S64x64, .i32⟩
  | .hbm, ⟨19, _⟩ => ⟨S64x64, .i32⟩
  | .hbm, ⟨20, _⟩ => ⟨S128x64, .i32⟩
  | .hbm, ⟨21, _⟩ => ⟨S8192, .i32⟩
  | .hbm, ⟨22, _⟩ => ⟨S524288x128, .f32⟩
  | .hbm, ⟨23, _⟩ => ⟨S8192x128, .f32⟩
  | .hbm, ⟨24, _⟩ => ⟨S2x64x64x128, .f32⟩
  | .hbm, ⟨25, _⟩ => ⟨S1x64x64x128, .f32⟩
  | .hbm, ⟨26, _⟩ => ⟨S64x64x128, .f32⟩
  | .hbm, ⟨27, _⟩ => ⟨S1x64x64x128, .f32⟩
  | .hbm, ⟨28, _⟩ => ⟨S64x64x128, .f32⟩
  | .local .tc .vmem, ⟨0, _⟩ => ⟨S1x8192x128, .f32⟩
  | .local .tc .vmem, ⟨1, _⟩ => ⟨S1x8192x128, .f32⟩
  | .local .tc .vmem, ⟨2, _⟩ => ⟨S1x1x128, .f32⟩
  | .local .tc .vmem, ⟨3, _⟩ => ⟨S1x1x128, .f32⟩
  | .local .tc .vmem, ⟨4, _⟩ => ⟨S1x1x8192, .f32⟩
  | .local .tc .vmem, ⟨5, _⟩ => ⟨S1x1x8192, .f32⟩
  | .local .tc .vmem, ⟨6, _⟩ => ⟨S1x1x8192, .f32⟩
  | .local .tc .vmem, ⟨7, _⟩ => ⟨S1x1x8192, .f32⟩
  | .local .tc .vmem, ⟨8, _⟩ => ⟨S64x8192, .f32⟩
  | .local .tc .vmem, ⟨9, _⟩ => ⟨S64x64, .i32⟩
  | .local .tc .vmem, ⟨10, _⟩ => ⟨S64x64, .i32⟩
  | .local .tc .vmem, ⟨11, _⟩ => ⟨S64x8192, .f32⟩
  | .local .tc .vmem, ⟨12, _⟩ => ⟨S64x8192, .f32⟩
  | .local .scVector .vmem, ⟨0, _⟩ => ⟨S256, .i32⟩
  | .local .scVector .vmem, ⟨1, _⟩ => ⟨S256x128, .f32⟩
  | _, _ => ⟨S64x8192x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => false
  | ⟨12, _⟩ => false
  | ⟨13, _⟩ => false
  | _ => false

abbrev sig : RefSig :=
  ofTables nBuf rfl bufTy 4 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v15_scv : Ref sig .scVector := ⟨.hbm, 22, rfl⟩
abbrev main_v14_scv : Ref sig .scVector := ⟨.hbm, 21, rfl⟩
abbrev main_v16_scv : Ref sig .scVector := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_scratch0 : Ref sig .tc := ⟨.vmem, 11, rfl⟩
abbrev cc1_scratch1 : Ref sig .tc := ⟨.vmem, 12, rfl⟩
abbrev cc2_scratch0 : Ref sig .scVector := ⟨.vmem, 0, rfl⟩
abbrev cc2_scratch1 : Ref sig .scVector := ⟨.vmem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := .none

@[reducible] def k1_t1_loop : Scf.Loop 32 :=
  let c0_i32_7 : BitVec 32 := 0#32
  let c64_i32 : BitVec 32 := 64#32
  let v15 : BitVec 32 := Scalar.addi c0_i32_7 c64_i32
  let c1_i32 : BitVec 32 := 1#32
  ⟨c0_i32_7, v15, c1_i32⟩
abbrev stage1_0 : Fin 1 → Memref sig .tc .vmem S64x8192 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x64 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x64 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev grid2 : Pipeline.Grid := ⟨2, ![2, 16], ![false, false]⟩

def k2_off1 (i : grid2.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
def k2_off2 (i : grid2.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_3_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x8192x128 : Shape := ⟨3, ![64, 8192, 128]⟩
abbrev S64x1x128 : Shape := ⟨3, ![64, 1, 128]⟩
abbrev S_ : Shape := ⟨0, ![]⟩
abbrev S64x8192 : Shape := ⟨2, ![64, 8192]⟩
abbrev S64x8192x1 : Shape := ⟨3, ![64, 8192, 1]⟩
abbrev S64x1 : Shape := ⟨2, ![64, 1]⟩
abbrev S64x1x1 : Shape := ⟨3, ![64, 1, 1]⟩
abbrev S64x64 : Shape := ⟨2, ![64, 64]⟩
abbrev S64x64x1 : Shape := ⟨3, ![64, 64, 1]⟩
abbrev S1 : Shape := ⟨1, ![1]⟩
abbrev S1x1x1 : Shape := ⟨3, ![1, 1, 1]⟩
abbrev S64x64x128 : Shape := ⟨3, ![64, 64, 128]⟩

abbrev nBuf : Space → Nat
  | .hbm => 79
  | .vmem => 0
  | .smem => 0
  | _ => 0

abbrev bufTy : (tb : Table) → Fin (tcTables nBuf tb) → BufTy
  | .hbm, ⟨0, _⟩ => ⟨S64x8192x128, .f32⟩
  | .hbm, ⟨1, _⟩ => ⟨S64x1x128, .f32⟩
  | .hbm, ⟨2, _⟩ => ⟨S64x8192x128, .f32⟩
  | .hbm, ⟨3, _⟩ => ⟨S_, .f32⟩
  | .hbm, ⟨4, _⟩ => ⟨S64x8192, .f32⟩
  | .hbm, ⟨5, _⟩ => ⟨S64x8192x1, .f32⟩
  | .hbm, ⟨6, _⟩ => ⟨S64x8192x1, .f32⟩
  | .hbm, ⟨7, _⟩ => ⟨S_, .f32⟩
  | .hbm, ⟨8, _⟩ => ⟨S64x8192x1, .f32⟩
  | .hbm, ⟨9, _⟩ => ⟨S64x8192x1, .f32⟩
  | .hbm, ⟨10, _⟩ => ⟨S64x8192x128, .f32⟩
  | .hbm, ⟨11, _⟩ => ⟨S64x8192x128, .f32⟩
  | .hbm, ⟨12, _⟩ => ⟨S64x1x128, .f32⟩
  | .hbm, ⟨13, _⟩ => ⟨S_, .f32⟩
  | .hbm, ⟨14, _⟩ => ⟨S64x1, .f32⟩
  | .hbm, ⟨15, _⟩ => ⟨S64x1x1, .f32⟩
  | .hbm, ⟨16, _⟩ => ⟨S64x1x1, .f32⟩
  | .hbm, ⟨17, _⟩ => ⟨S_, .f32⟩
  | .hbm, ⟨18, _⟩ => ⟨S64x1x1, .f32⟩
  | .hbm, ⟨19, _⟩ => ⟨S64x1x1, .f32⟩
  | .hbm, ⟨20, _⟩ => ⟨S64x1x128, .f32⟩
  | .hbm, ⟨21, _⟩ => ⟨S64x1x128, .f32⟩
  | .hbm, ⟨22, _⟩ => ⟨S64x8192x1, .f32⟩
  | .hbm, ⟨23, _⟩ => ⟨S_, .f32⟩
  | .hbm, ⟨24, _⟩ => ⟨S64x8192, .f32⟩
  | .hbm, ⟨25, _⟩ => ⟨S_, .f32⟩
  | .hbm, ⟨26, _⟩ => ⟨S64x8192, .f32⟩
  | .hbm, ⟨27, _⟩ => ⟨S64x8192, .f32⟩
  | .hbm, ⟨28, _⟩ => ⟨S64x64, .f32⟩
  | .hbm, ⟨29, _⟩ => ⟨S64x64, .i32⟩
  | .hbm, ⟨30, _⟩ => ⟨S64x8192, .f32⟩
  | .hbm, ⟨31, _⟩ => ⟨S64x64, .f32⟩
  | .hbm, ⟨32, _⟩ => ⟨S64x64, .i32⟩
  | .hbm, ⟨33, _⟩ => ⟨S64x64x1, .i32⟩
  | .hbm, ⟨34, _⟩ => ⟨S_, .i32⟩
  | .hbm, ⟨35, _⟩ => ⟨S64x64x1, .i32⟩
  | .hbm, ⟨36, _⟩ => ⟨S64x64x1, .i1⟩
  | .hbm, ⟨37, _⟩ => ⟨S_, .i32⟩
  | .hbm, ⟨38, _⟩ => ⟨S64x64x1, .i32⟩
  | .hbm, ⟨39, _⟩ => ⟨S64x64x1, .i32⟩
  | .hbm, ⟨40, _⟩ => ⟨S64x64x1, .i32⟩
  | .hbm, ⟨41, _⟩ => ⟨S1, .i32⟩
  | .hbm, ⟨42, _⟩ => ⟨S_, .i32⟩
  | .hbm, ⟨43, _⟩ => ⟨S64x64x1, .i32⟩
  | .hbm, ⟨44, _⟩ => ⟨S64x64x1, .i1⟩
  | .hbm, ⟨45, _⟩ => ⟨S1x1x1, .i32⟩
  | .hbm, ⟨46, _⟩ => ⟨S64x64x1, .i32⟩
  | .hbm, ⟨47, _⟩ => ⟨S64x64x1, .i1⟩
  | .hbm, ⟨48, _⟩ => ⟨S64x64x1, .i1⟩
  | .hbm, ⟨49, _⟩ => ⟨S_, .i1⟩
  | .hbm, ⟨50, _⟩ => ⟨S64x64, .i1⟩
  | .hbm, ⟨51, _⟩ => ⟨S64x64x128, .f32⟩
  | .hbm, ⟨52, _⟩ => ⟨S64x64x128, .i1⟩
  | .hbm, ⟨53, _⟩ => ⟨S_, .f32⟩
  | .hbm, ⟨54, _⟩ => ⟨S64x64x128, .f32⟩
  | .hbm, ⟨55, _⟩ => ⟨S64x64x128, .f32⟩
  | .hbm, ⟨56, _⟩ => ⟨S64x64x1, .i32⟩
  | .hbm, ⟨57, _⟩ => ⟨S_, .i32⟩
  | .hbm, ⟨58, _⟩ => ⟨S64x64x1, .i32⟩
  | .hbm, ⟨59, _⟩ => ⟨S64x64x1, .i1⟩
  | .hbm, ⟨60, _⟩ => ⟨S_, .i32⟩
  | .hbm, ⟨61, _⟩ => ⟨S64x64x1, .i32⟩
  | .hbm, ⟨62, _⟩ => ⟨S64x64x1, .i32⟩
  | .hbm, ⟨63, _⟩ => ⟨S64x64x1, .i32⟩
  | .hbm, ⟨64, _⟩ => ⟨S1, .i32⟩
  | .hbm, ⟨65, _⟩ => ⟨S_, .i32⟩
  | .hbm, ⟨66, _⟩ => ⟨S64x64x1, .i32⟩
  | .hbm, ⟨67, _⟩ => ⟨S64x64x1, .i1⟩
  | .hbm, ⟨68, _⟩ => ⟨S1x1x1, .i32⟩
  | .hbm, ⟨69, _⟩ => ⟨S64x64x1, .i32⟩
  | .hbm, ⟨70, _⟩ => ⟨S64x64x1, .i1⟩
  | .hbm, ⟨71, _⟩ => ⟨S64x64x1, .i1⟩
  | .hbm, ⟨72, _⟩ => ⟨S_, .i1⟩
  | .hbm, ⟨73, _⟩ => ⟨S64x64, .i1⟩
  | .hbm, ⟨74, _⟩ => ⟨S64x64x128, .f32⟩
  | .hbm, ⟨75, _⟩ => ⟨S64x64x128, .i1⟩
  | .hbm, ⟨76, _⟩ => ⟨S_, .f32⟩
  | .hbm, ⟨77, _⟩ => ⟨S64x64x128, .f32⟩
  | .hbm, ⟨78, _⟩ => ⟨S64x64x128, .f32⟩
  | _, _ => ⟨S64x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call1_v0 : Ref sig .tc := ⟨.hbm, 12, rfl⟩
abbrev main_call1_cst : Ref sig .tc := ⟨.hbm, 13, rfl⟩
abbrev main_call1_v1 : Ref sig .tc := ⟨.hbm, 14, rfl⟩
abbrev main_call1_v2 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_values : Ref sig .tc := ⟨.hbm, 28, rfl⟩
abbrev main_indices : Ref sig .tc := ⟨.hbm, 29, rfl⟩
abbrev main_v14 : Ref sig .tc := ⟨.hbm, 30, rfl⟩
abbrev main_values_3 : Ref sig .tc := ⟨.hbm, 31, rfl⟩
abbrev main_indices_4 : Ref sig .tc := ⟨.hbm, 32, rfl⟩
abbrev main_v15 : Ref sig .tc := ⟨.hbm, 33, rfl⟩
abbrev main_call2_c : Ref sig .tc := ⟨.hbm, 34, rfl⟩
abbrev main_call2_v0 : Ref sig .tc := ⟨.hbm, 35, rfl⟩
abbrev main_call2_v1 : Ref sig .tc := ⟨.hbm, 36, rfl⟩
abbrev main_call2_c_0 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_call2_c_1 : Ref sig .tc := ⟨.hbm, 41, rfl⟩
abbrev main_call2_c_2 : Ref sig .tc := ⟨.hbm, 42, rfl⟩
abbrev main_call2_v5 : Ref sig .tc := ⟨.hbm, 43, rfl⟩
abbrev main_call2_v6 : Ref sig .tc := ⟨.hbm, 44, rfl⟩
abbrev main_call2_v7 : Ref sig .tc := ⟨.hbm, 45, rfl⟩
abbrev main_call2_v8 : Ref sig .tc := ⟨.hbm, 46, rfl⟩
abbrev main_call2_v9 : Ref sig .tc := ⟨.hbm, 47, rfl⟩
abbrev main_call2_v10 : Ref sig .tc := ⟨.hbm, 48, rfl⟩
abbrev main_call2_c_3 : Ref sig .tc := ⟨.hbm, 49, rfl⟩
abbrev main_call2_v11 : Ref sig .tc := ⟨.hbm, 50, rfl⟩
abbrev main_call2_v12 : Ref sig .tc := ⟨.hbm, 51, rfl⟩
abbrev main_call2_v13 : Ref sig .tc := ⟨.hbm, 52, rfl⟩
abbrev main_call2_cst : Ref sig .tc := ⟨.hbm, 53, rfl⟩
abbrev main_call2_v14 : Ref sig .tc := ⟨.hbm, 54, rfl⟩
abbrev main_v16 : Ref sig .tc := ⟨.hbm, 55, rfl⟩
abbrev main_v17 : Ref sig .tc := ⟨.hbm, 56, rfl⟩
abbrev main_call3_c : Ref sig .tc := ⟨.hbm, 57, rfl⟩
abbrev main_call3_v0 : Ref sig .tc := ⟨.hbm, 58, rfl⟩
abbrev main_call3_v1 : Ref sig .tc := ⟨.hbm, 59, rfl⟩
abbrev main_call3_c_0 : Ref sig .tc := ⟨.hbm, 60, rfl⟩
abbrev main_call3_v2 : Ref sig .tc := ⟨.hbm, 61, rfl⟩
abbrev main_call3_v3 : Ref sig .tc := ⟨.hbm, 62, rfl⟩
abbrev main_call3_v4 : Ref sig .tc := ⟨.hbm, 63, rfl⟩
abbrev main_call3_c_1 : Ref sig .tc := ⟨.hbm, 64, rfl⟩
abbrev main_call3_c_2 : Ref sig .tc := ⟨.hbm, 65, rfl⟩
abbrev main_call3_v5 : Ref sig .tc := ⟨.hbm, 66, rfl⟩
abbrev main_call3_v6 : Ref sig .tc := ⟨.hbm, 67, rfl⟩
abbrev main_call3_v7 : Ref sig .tc := ⟨.hbm, 68, rfl⟩
abbrev main_call3_v8 : Ref sig .tc := ⟨.hbm, 69, rfl⟩
abbrev main_call3_v9 : Ref sig .tc := ⟨.hbm, 70, rfl⟩
abbrev main_call3_v10 : Ref sig .tc := ⟨.hbm, 71, rfl⟩
abbrev main_call3_c_3 : Ref sig .tc := ⟨.hbm, 72, rfl⟩
abbrev main_call3_v11 : Ref sig .tc := ⟨.hbm, 73, rfl⟩
abbrev main_call3_v12 : Ref sig .tc := ⟨.hbm, 74, rfl⟩
abbrev main_call3_v13 : Ref sig .tc := ⟨.hbm, 75, rfl⟩
abbrev main_call3_cst : Ref sig .tc := ⟨.hbm, 76, rfl⟩
abbrev main_call3_v14 : Ref sig .tc := ⟨.hbm, 77, rfl⟩
abbrev main_v18 : Ref sig .tc := ⟨.hbm, 78, rfl⟩

abbrev nD : Nat := 1
abbrev τ : Topo := Topo.v7x

variable {F : FTy → Type} [FloatOps F]
-- ==== Proof.Setup.lean ====
/-
  The kernel's program as its launch sees it: the SparseCore call's configuration over the two TensorCore regions, the
  ghost state (the call's handshakes, the regions' staging rounds, the transfers' counters), and the facts that every
  other module of this proof reads.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pipeline.Value
public import Idealize.ShloMosaic.Lib.Pipeline.Frame
public import Idealize.ShloMosaic.Lib.Pipeline.FrameBody
public import Idealize.ShloMosaic.Lib.Pipeline.RegionsLoop
public import Idealize.ShloMosaic.Lib.Pipeline.ValueKit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Loops

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-- The labels of the two TensorCore regions over the kernels' own. -/
abbrev ΛP : Labels := Pipeline.Sig Λ₀ (Fin 2) fun p => (pcfgs (F := F) p).Adm
/-- The SparseCore call. -/
abbrev K : SparseCore.Cfg τ sig (ΛP (F := F)) 1 := sc (F := F)
theorem nSub_zero : (K (F := F)).nSub 0 = 16 := rfl
theorem nCore_zero : (K (F := F)).nCore 0 = 2 := rfl
/-- The definitions below the SparseCore's: the two regions over the kernels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the staging cells' rounds, the transfers' counters. -/
abbrev UH : Type := URounds (GSem nD τ sig) ℕ
abbrev UP : Type := UR sig nD τ
abbrev UU : Type := UH × (UP × Counters)

/-- The proof's resources. -/
abbrev MM (F : FTy → Type) : Type := MT nD τ sig (HIx 1) (Elt F) ℕ UU ℕ

abbrev EH : Emb UH (MM F) := embL
/-- The staging cells' rounds: the left factor of the right half. -/
def EP : Emb UP (MM F) := (Emb.inl : Emb UP (UP × Counters)).trans embR

instance EP_landsIn : (EP : Emb UP (MM F)).LandsIn (upEmb : UEmb _ (MM F)) := by unfold EP; infer_instance

/-- The two regions have no prefetched scalar, so each is admissible as it stands. -/
def adm : (p : Fin 2) → (pcfgs (F := F) p).Adm := fun p => (cfgs p).toPCfg_adm

/-- A whole buffer of a device, held at the full share. -/
abbrev pt (c : Dev nD) (b : Ref sig .tc) (f : Buf (Elt F) ((SparseCore.T c : Thread nD τ).loc b)) : sProp (MM F) :=
  (SparseCore.T c : Thread nD τ).loc b ↦{fullShare} f

/-- A load of a whole view reads its contents. -/
theorem readAt_whole {Val : EltTy → Type} {sig : RefSig} {κ : Kind} {sp : Space} {S : Shape} {e : EltTy} (v : View sig κ sp S e)
    (f : v.ty.Contents Val) {off : Fin S.rank → ℕ} (h : off = fun _ => 0) (inb : ∀ a, off a + S.size a ≤ S.size a) :
    v.readAt Val (Rect.unit off S.size inb).toLoadRect f = v.read Val f := by
  rw [View.readAt_eq_ld, View.ld_unit_zero h]

/-- After stores the last of which filled a whole view, the view reads that store's payload. -/
theorem read_writes_whole {Val : EltTy → Type} [∀ e, Nonempty (Val e)] {sig : RefSig} {κ : Kind} {sp : Space} {S : Shape} {e : EltTy}
    (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon, View.canon_cons_unit_zero h]
  subst h
  exact fun y => ⟨_, List.mem_cons_self, by show y ∈ (Rect.whole S).set; rw [Rect.set_whole]; exact Finset.mem_univ y⟩

/-- The proof data of a region that an entry does not run: anything. -/
def junkDat {cfg : Pipeline.Cfg sig Λ₀} [∀ e, Nonempty (Elt F e)] (c : Dev nD) : Pipeline.Dat τ (Elt F) (HIx 1) ℕ UU ℕ cfg c where
  A _ := fun _ => Classical.arbitrary _
  after _ _ := fun _ => Classical.arbitrary _
  Φ _ := BI.emp
  q _ := fullShare
  owed _ := 0

/-- What the TensorCore owes before the SparseCore call: the call's handshake, no wait of it recorded. -/
def oweTc (c : Dev nD) : sProp (MM F) :=
  iprop(∃ W, ⌜∀ p ∈ W, p.2 = none⌝ ∗ owes (SparseCore.T c) ((K (F := F)).Otc c 0) W)

theorem Otc_none (c : Dev nD) (g : GSem nD τ sig) : (K (F := F)).Otc c 0 g none = 0 := by
  unfold SparseCore.Cfg.Otc
  simp [Finset.sum_apply, tallyAt_apply]

end Cert.Proof.Run

end
-- ==== Proof.Tile.lean ====
/-
  One vector subcore's task of the SparseCore gather, run once at a symbolic pair of SparseCore and tile with its
  value, and what the call hands each tile and takes back.

  Tile `(c, s)` has number `2 s + c`. It fetches 256 row numbers, gathers these rows of the table by one indirect
  stream, and writes them out to its 256 rows of the output. So the call takes the table, the row numbers and the output,
  and brings back the output at `gath`: row `j` is the table's row number `ix j`. Each tile holds the part of the row
  numbers and of the output that its number names (a 32nd each) and a 32nd share of the table.
-/
module

public import proofs.«01_k».proof.Proof.Setup

@[expose] public section

set_option maxRecDepth 16384

noncomputable section

namespace Cert.Proof.Run

open Cert.KernelIdeal Cert.KernelIdeal.Gen

open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The three buffers -/

abbrev xLoc (d : Dev nD) : Loc nD τ sig := (SparseCore.T d).loc main_v15
abbrev iLoc (d : Dev nD) : Loc nD τ sig := (SparseCore.T d).loc main_v14
abbrev oLoc (d : Dev nD) : Loc nD τ sig := (SparseCore.T d).loc main_v16

abbrev iV : Memref Cert.KernelIdeal.sig Kind.scVector Space.hbm Cert.KernelIdeal.S8192 EltTy.i32 := Memref.whole Cert.KernelIdeal.main_v14_scv
abbrev xV : Memref Cert.KernelIdeal.sig Kind.scVector Space.hbm Cert.KernelIdeal.S524288x128 EltTy.f32 := Memref.whole Cert.KernelIdeal.main_v15_scv
abbrev oV : Memref Cert.KernelIdeal.sig Kind.scVector Space.hbm Cert.KernelIdeal.S8192x128 EltTy.f32 := Memref.whole Cert.KernelIdeal.main_v16_scv
abbrev sV : Memref Cert.KernelIdeal.sig Kind.scVector Space.vmem Cert.KernelIdeal.S256 EltTy.i32 := Memref.whole Cert.KernelIdeal.cc2_scratch0
abbrev rV : Memref Cert.KernelIdeal.sig Kind.scVector Space.vmem Cert.KernelIdeal.S256x128 EltTy.f32 := Memref.whole Cert.KernelIdeal.cc2_scratch1

theorem idiv : 32 ∣ S8192.size 0 := ⟨256, rfl⟩
theorem odiv : 32 ∣ S8192x128.size 0 := ⟨256, rfl⟩
/-- Part `i` of the row numbers, and of the output's rows. -/
abbrev irow (i : Fin 32) : Rect S8192 := Rect.part (s := S8192) (a₀ := 0) idiv i
abbrev orow (i : Fin 32) : Rect S8192x128 := Rect.part (s := S8192x128) (a₀ := 0) odiv i
abbrev iSet (i : Fin 32) : Finset S8192.Idx := ((iV).view.slice (irow i)).set
abbrev oSet (i : Fin 32) : Finset S8192x128.Idx := ((oV).view.slice (orow i)).set

/-! ## Shares of the table: the full share halved five times -/

/-- Leaf `i` of the share `q` halved `n` times over. -/
def leafOf : (n : ℕ) → PosShare TreeShare → Fin (2 ^ n) → PosShare TreeShare
  | 0, q, _ => q
  | n + 1, q, i => Sum.elim (leafOf n q.left) (leafOf n q.right)
      (finSumFinEquiv.symm (i.cast (by omega : 2 ^ (n + 1) = 2 ^ n + 2 ^ n)))

/-- A buffer held at a share is the buffer held at its leaves. -/
theorem pointsTo_leafOf {ℓ : Loc nD τ sig} (I : Finset (Idx ℓ)) (f : Buf (Elt F) ℓ) :
    ∀ (n : ℕ) (q : PosShare TreeShare), (ℓ ↦[I]{q} f : sProp (MM F)) = bigSep Finset.univ fun i : Fin (2 ^ n) => ℓ ↦[I]{leafOf n q i} f
  | 0, q => (bigSep_univ_of_subsingleton (0 : Fin 1) (Φ := fun i : Fin (2 ^ 0) => (ℓ ↦[I]{leafOf 0 q i} f : sProp (MM F)))).symm
  | n + 1, q => by
    have e : 2 ^ n + 2 ^ n = 2 ^ (n + 1) := by omega
    rw [BI.Entails.antisymm (pointsTo_share (PosShare.mem_left_op_right q)).1 (pointsTo_share (PosShare.mem_left_op_right q)).2,
      pointsTo_leafOf I f n q.left, pointsTo_leafOf I f n q.right,
      bigSep_univ_equiv (finSumFinEquiv.trans (finCongr e)) (fun i : Fin (2 ^ (n + 1)) => (ℓ ↦[I]{leafOf (n + 1) q i} f : sProp (MM F))),
      bigSep_univ_sum]
    have hs : ∀ x : Fin (2 ^ n) ⊕ Fin (2 ^ n), leafOf (n + 1) q ((finSumFinEquiv.trans (finCongr e)) x) = Sum.elim (leafOf n q.left) (leafOf n q.right) x := by
      intro x
      show Sum.elim _ _ (finSumFinEquiv.symm (((finCongr e) (finSumFinEquiv x)).cast _)) = _
      congr 1
      exact (Equiv.symm_apply_eq _).mpr (Fin.ext rfl)
    simp only [hs, Sum.elim_inl, Sum.elim_inr]
    rfl

/-- Tile number `i`'s share of the table. -/
abbrev xq (i : Fin 32) : PosShare TreeShare := leafOf 5 fullShare i

/-! ## What the call hands over and brings back -/

/-- The table row that a word names: its value, brought into range. -/
def rowOfWord (w : BitVec 32) : Fin 524288 := ⟨w.toNat % 524288, Nat.mod_lt _ (by decide)⟩

/-- The gathered rows: row `j` is the table's row number `ix j`. -/
def gath (x : S524288x128.Idx → Elt F .f32) (ix : S8192.Idx → Elt F .i32) : S8192x128.Idx → Elt F .f32 :=
  fun j => x ((fun | 0 => rowOfWord (ix ((fun | 0 => j 0) : (a : Fin 1) → Fin (S8192.size a))) | 1 => j 1) : (a : Fin 2) → Fin (S524288x128.size a))

variable (tb : (d : Dev nD) → Buf (Elt F) (xLoc d)) (ix : (d : Dev nD) → Buf (Elt F) (iLoc d)) (o0 : (d : Dev nD) → Buf (Elt F) (oLoc d))

/-- The gathered rows of the call's own operands. -/
abbrev og (d : Dev nD) : Buf (Elt F) (oLoc d) := gath (tb d) (ix d)

/-- The number of the tile `i` of SparseCore `c`. -/
def tileNo (c : Fin 2) (i : Fin 16) : Fin 32 := ⟨2 * i.val + c.val, by omega⟩

/-- What tile number `w` is handed, -/
abbrev goW (d : Dev nD) (w : Fin 32) : sProp (MM F) :=
  iprop((iLoc d ↦[iSet w]{fullShare} ix d) ∗ (xLoc d ↦{xq w} tb d) ∗ (oLoc d ↦[oSet w]{fullShare} o0 d))
/-- and what it brings back. -/
abbrev tdW (d : Dev nD) (w : Fin 32) : sProp (MM F) :=
  iprop((iLoc d ↦[iSet w]{fullShare} ix d) ∗ (xLoc d ↦{xq w} tb d) ∗ (oLoc d ↦[oSet w]{fullShare} og tb ix d))

variable [FloatOps F]

/-- Each SparseCore's sequencer is handed what its tiles are, together. -/
def P : (K (F := F)).Pay (nD := nD) (Val := Elt F) (Name := ℕ) (U := UU) where
  st := fun q d c => match q with
    | 0 => bigSep Finset.univ fun i : Fin ((K (F := F)).nSub 0) => goW tb ix o0 d (tileNo (Fin.cast nCore_zero c) (Fin.cast nSub_zero i))
  dn := fun q d c => match q with
    | 0 => bigSep Finset.univ fun i : Fin ((K (F := F)).nSub 0) => tdW tb ix d (tileNo (Fin.cast nCore_zero c) (Fin.cast nSub_zero i))
  go := fun q d c i => match q with | 0 => goW tb ix o0 d (tileNo (Fin.cast nCore_zero c) (Fin.cast nSub_zero i))
  td := fun q d c i => match q with | 0 => tdW tb ix d (tileNo (Fin.cast nCore_zero c) (Fin.cast nSub_zero i))
  x := fun _ _ => iprop(emp)

instance P_storable : (P (F := F) tb ix o0).IsStorable where
  st q d c := match q with
    | 0 => (inferInstance : BI.Storable (upEmb : UEmb _ (MM F))
      (bigSep Finset.univ fun i : Fin ((K (F := F)).nSub 0) => goW tb ix o0 d (tileNo (Fin.cast nCore_zero c) (Fin.cast nSub_zero i))))
  dn q d c := match q with
    | 0 => (inferInstance : BI.Storable (upEmb : UEmb _ (MM F))
      (bigSep Finset.univ fun i : Fin ((K (F := F)).nSub 0) => tdW tb ix d (tileNo (Fin.cast nCore_zero c) (Fin.cast nSub_zero i))))
  go q d c i := match q with
    | 0 => (inferInstance : BI.Storable (upEmb : UEmb _ (MM F)) (goW tb ix o0 d (tileNo (Fin.cast nCore_zero c) (Fin.cast nSub_zero i))))
  td q d c i := match q with
    | 0 => (inferInstance : BI.Storable (upEmb : UEmb _ (MM F)) (tdW tb ix d (tileNo (Fin.cast nCore_zero c) (Fin.cast nSub_zero i))))

/-- Every row number names a row of the table. -/
def InRange (ix : (d : Dev nD) → Buf (Elt F) (iLoc d)) : Prop := ∀ (d : Dev nD) (j : S8192.Idx), ((ix d j : BitVec 32)).toNat < 524288

/-! ## The task -/

section Tile

variable (d : Dev nD) (L : grid2.Coords)

abbrev cV (L : grid2.Coords) : Fin τ.nSC := (L 0).castLE hcore2
abbrev jV (L : grid2.Coords) : Fin τ.nSub := (L 1).castLE hsub2
omit [FloatOps F] in
theorem bound_zero : grid2.bound 0 = 2 := rfl
omit [FloatOps F] in
theorem bound_one : grid2.bound 1 = 16 := rfl
/-- The tile's number. -/
abbrev wL (L : grid2.Coords) : Fin 32 := tileNo (Fin.cast bound_zero (L 0)) (Fin.cast bound_one (L 1))

abbrev irowK (L : grid2.Coords) : Rect S8192 := Rect.unit (s := S8192) (k2_off1 L) S256.size (k2_off1_inb L)
abbrev orowK (L : grid2.Coords) : Rect S8192x128 := Rect.unit (s := S8192x128) (k2_off2 L) S256x128.size (k2_off2_inb L)
/-- The tile's row numbers, its rows of the output, and the table, as the task addresses them. -/
abbrev iRowK (L : grid2.Coords) : Memref sig .scVector .hbm S256 .i32 := (iV).slice (irowK L) (fun _ => rfl)
abbrev oRowK (L : grid2.Coords) : Memref sig .scVector .hbm S256x128 .f32 := (oV).slice (orowK L) (fun _ => rfl)
abbrev xAllK : Memref sig .scVector .hbm S524288x128 .f32 :=
  (xV).slice (Rect.unit (s := S524288x128) ![0, 0] S524288x128.size inb_S524288x128_S524288x128_0_0) (fun _ => rfl)

omit [FloatOps F] in
theorem irowK_eq : irowK L = irow (wL L) := by
  unfold irowK irow Rect.part Rect.block
  congr 1 <;> funext a
  · rw [k2_off1_eq]
    match a with
    | 0 =>
      show 512 * (L 1).val + 256 * (L 0).val = (2 * (L 1).val + (L 0).val) * 256
      omega
  · match a with
    | 0 => simp [Shape.partSize]
omit [FloatOps F] in
theorem orowK_eq : orowK L = orow (wL L) := by
  unfold orowK orow Rect.part Rect.block
  congr 1 <;> funext a
  · rw [k2_off2_eq]
    match a with
    | 0 =>
      show 512 * (L 1).val + 256 * (L 0).val = (2 * (L 1).val + (L 0).val) * 256
      omega
    | 1 => simp [Shape.partIx, Shape.partSize]
  · match a with
    | 0 => simp [Shape.partSize]
    | 1 => simp [Shape.partSize]

omit [FloatOps F] in
theorem set_iRowK : (iRowK L).view.set = iSet (wL L) := by
  show ((iV).view.slice (irowK L)).set = ((iV).view.slice (irow (wL L))).set
  exact irowK_eq L ▸ rfl
omit [FloatOps F] in
theorem set_oRowK : (oRowK L).view.set = oSet (wL L) := by
  show ((oV).view.slice (orowK L)).set = ((oV).view.slice (orow (wL L))).set
  exact orowK_eq L ▸ rfl

omit [FloatOps F] in
theorem pts_iRowK (f : Buf (Elt F) (iLoc d)) :
    ((iRowK L).view.loc (V d (cV L) (jV L)) ↦[(iRowK L).view.set]{fullShare} f : sProp (MM F)) = iLoc d ↦[iSet (wL L)]{fullShare} f := by
  rw [set_iRowK]
omit [FloatOps F] in
theorem pts_oRowK (f : Buf (Elt F) (oLoc d)) :
    ((oRowK L).view.loc (V d (cV L) (jV L)) ↦[(oRowK L).view.set]{fullShare} f : sProp (MM F)) = oLoc d ↦[oSet (wL L)]{fullShare} f := by
  rw [set_oRowK]
omit [FloatOps F] in
theorem pts_xV (q : PosShare TreeShare) (f : Buf (Elt F) (xLoc d)) :
    ((xV).view.loc (V d (cV L) (jV L)) ↦{q} f : sProp (MM F)) = xLoc d ↦{q} f := rfl
omit [FloatOps F] in
theorem pts_sV (f : Buf (Elt F) ((V d (cV L) (jV L)).loc cc2_scratch0)) :
    ((sV).view.loc (V d (cV L) (jV L)) ↦{fullShare} f : sProp (MM F)) = (V d (cV L) (jV L)).loc cc2_scratch0 ↦{fullShare} f := rfl
omit [FloatOps F] in
theorem pts_rV (f : Buf (Elt F) ((V d (cV L) (jV L)).loc cc2_scratch1)) :
    ((rV).view.loc (V d (cV L) (jV L)) ↦{fullShare} f : sProp (MM F)) = (V d (cV L) (jV L)).loc cc2_scratch1 ↦{fullShare} f := rfl

/-- The stream's cell, the fetch's and the write-out's. -/
abbrev cAcell (d : Dev nD) (c : Fin τ.nSC) (i : Fin τ.nSub) : GSem nD τ sig := (V d c i, .dma cc2_scratch2.sem)
abbrev cBcell (d : Dev nD) (c : Fin τ.nSC) (i : Fin τ.nSub) : GSem nD τ sig := (V d c i, .dma cc2_scoped0.sem)
abbrev cCcell (d : Dev nD) (c : Fin τ.nSC) (i : Fin τ.nSub) : GSem nD τ sig := (V d c i, .dma cc2_scoped1.sem)

omit [FloatOps F] in
/-- The three cells are among the subcore's own. -/
theorem ownSems0_V :
    (ownSems0 (V d (cV L) (jV L)) : sProp (MM F))
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc2_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc2_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc2_scoped1.sem : SemLoc sig).isScoped .scVector = true; decide⟩⟩⟩)]

omit [FloatOps F] in
/-- The two scratch buffers are among the subcore's own. -/
theorem ownBufs_V :
    (ownBufs (V d (cV L) (jV L)) : sProp (MM F))
      = iprop((∃ f, (V d (cV L) (jV L)).loc cc2_scratch0 ↦{fullShare} f) ∗ (∃ f, (V d (cV L) (jV L)).loc cc2_scratch1 ↦{fullShare} f)
          ∗ bigSep (((ownRefs (τ := τ) (.scVector (cV L) (jV L))).erase ((Proc.scVector (cV L) (jV L)).devRef cc2_scratch0)).erase
              ((Proc.scVector (cV L) (jV L)).devRef cc2_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩)]

omit [FloatOps F] in
/-- A word of the list that the fetch landed is the word of the row numbers at the tile's place. -/
theorem list_apply (fs : Buf (Elt F) ((V d (cV L) (jV L)).loc cc2_scratch0)) (pay : S256.Idx → Elt F .i32)
    (hpay : pay = (iRowK L).view.read (Elt F) (ix d)) (x : S256.Idx) :
    (sV).view.read (Elt F) (View.write (Elt F) (sV).view fs pay Finset.univ) x = ix d ((irowK L).emb x) := by
  subst hpay
  rw [View.write_whole_univ]
  simp only [Memref.view_whole, View.read_whole]
  exact (View.read_apply _ _).trans (cast_eq _ _)

omit [FloatOps F] in
theorem inb_of_range (hpre : InRange ix) (fs : Buf (Elt F) ((V d (cV L) (jV L)).loc cc2_scratch0)) (pay : S256.Idx → Elt F .i32)
    (hpay : pay = (iRowK L).view.read (Elt F) (ix d)) :
    ∀ x, ((sV).view.read (Elt F) (View.write (Elt F) (sV).view fs pay Finset.univ) x).toNat < S524288x128.size gathers_S524288x128_S256x128.axis := by
  intro x; rw [list_apply ix d L fs pay hpay x]; exact hpre d _

omit [FloatOps F] in
/-- The elements of the output that the task writes are the gathered rows, when its payload is. -/
theorem out_eq (f : Buf (Elt F) (oLoc d)) (pay : S256x128.Idx → Elt F .f32) (hpay : ∀ x, pay x = og tb ix d ((orowK L).emb x)) :
    ∀ j ∈ (oRowK L).view.set, (oRowK L).view.writes (Elt F) f [⟨Rect.whole S256x128, pay⟩] j = og tb ix d j := by
  intro j hj
  obtain ⟨x, rfl⟩ := View.exists_emb_of_mem_set _ hj
  have h := View.read_writes_cons_hit (oRowK L).view f (Rect.whole S256x128) pay [] x x (Rect.emb_whole_apply _ _)
  rw [hpay x] at h
  exact ((View.read_apply _ _).trans (cast_eq _ _)).symm.trans h

omit [FloatOps F] in
/-- What the stream lands at `x` is the gathered row's entry. -/
theorem landed_eq (hpre : InRange ix) (fs : Buf (Elt F) ((V d (cV L) (jV L)).loc cc2_scratch0)) (hn : S256.numel = S256x128.size gathers_S524288x128_S256x128.axis')
    (pay : S256.Idx → Elt F .i32) (hpay : pay = (iRowK L).view.read (Elt F) (ix d)) (h) (x : S256x128.Idx) :
    SparseCore.gatherPayload (F := F) (e := .f32) gathers_S524288x128_S256x128 ((xAllK).view.read (Elt F) (tb d))
        (SparseCore.rows ((sV).view.read (Elt F) (View.write (Elt F) (sV).view fs pay Finset.univ)) hn h) x
      = og tb ix d ((orowK L).emb x) := by
  unfold SparseCore.gatherPayload og gath
  refine ((View.read_apply _ _).trans (cast_eq _ _)).trans (congrArg (tb d) ?_)
  funext a
  match a with
  | 0 =>
    refine Fin.ext ?_
    show 0 + 1 * _ = _
    rw [Nat.zero_add, Nat.one_mul]
    refine (congrArg Fin.val (Shape.Gathers.idx_axis gathers_S524288x128_S256x128 _ x)).trans ?_
    show (((sV).view.read (Elt F) (View.write (Elt F) (sV).view fs pay Finset.univ)) _).toNat = (ix d _).toNat % 524288
    rw [list_apply ix d L fs pay hpay, Nat.mod_eq_of_lt (hpre d _)]
    refine congrArg (fun y => (ix d y).toNat) ?_
    funext b
    match b with
    | 0 =>
      refine Fin.ext ?_
      show k2_off1 L 0 + 1 * (S256.rowMajor.symm _ 0).val = k2_off2 L 0 + 1 * (x 0).val
      rw [k2_off1_eq, k2_off2_eq, Nat.one_mul, Nat.one_mul]
      refine congrArg (512 * (L 1).val + 256 * (L 0).val + ·) ?_
      rw [← Shape.rowMajor_val_one, Equiv.apply_symm_apply]
      rfl
  | 1 =>
    refine Fin.ext ?_
    show 0 + 1 * _ = _
    rw [Nat.zero_add, Nat.one_mul]
    refine (Shape.Gathers.idx_of_ne gathers_S524288x128_S256x128 _ x 1 (by decide)).trans ?_
    show (x 1).val = k2_off2 L 1 + 1 * (x 1).val
    rw [k2_off2_eq, Nat.one_mul]
    exact (Nat.zero_add _).symm

set_option maxHeartbeats 4000000 in
/-- The task on vector subcore `(L 0, L 1)` of device `d`. -/
theorem tile_body (hF : (K (F := F)).Facts) (hpre : InRange ix) (O : CellTallies nD τ sig (HIx 1)) (W : Waits sig (HIx 1)) (hO : ∀ g, O g none = 0) :
    iprop(levAts (K (F := F)).L (K (F := F)).lev ∗ emp ∗ goW tb ix o0 d (wL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc2_gather L xV (Memref.isWhole_whole _) iV (Memref.isWhole_whole _) oV (Memref.isWhole_whole _)
            sV (Memref.isWhole_whole _) rV (Memref.isWhole_whole _) cc2_scratch2 cc2_scoped0 cc2_scoped1)
          fun _ => iprop(tdW tb ix d (wL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc2_gather_eq_skeleton]; unfold cc2_gather_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := xq (wL L)) (f := tb d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp (MM F))
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 ix d L) Finset.univ : sProp (MM F))
      = (sV).view.loc (V d (cV L) (jV L)) ↦[(sV).view.set]{fullShare} View.write (Elt F) (sV).view fs (tile_body.sl.dma0 ix d L) Finset.univ
      by rw [hss])) $$ Hs'
  have hN : ∀ h : S524288x128.Gathers 0 S256x128, ∑ j, ((rV).slice (S256x128.rowRect h.axis' j) (S256x128.stride_rowRect h.axis' j)).view.dmaCredit
      = (rV).view.dmaCredit := by decide
  iapply (SparseCore.wp_indirectGatherLocal countersEmb 𝒱₀ (V d (cV L) (jV L)) none (hg := gathers_S524288x128_S256x128) (default : HIx 1)
      (rV).view.dmaCredit (hN _) (by decide) (inb_of_range ix d L hpre fs _ rfl)) $$ [Hxs Hr'' Hs'' HsemA]
  · isplitl [Hxs]; · iexact Hxs
    isplitl [Hr'']; · iexact Hr''
    isplitl [Hs'']; · iexact Hs''
    iexact HsemA
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc2_scratch2.sem)) $$ Hmw
  iintro ⟨⟨Hr', Hxs, Hs'⟩, HsemA, HO⟩
  ihave Hx' := (pointsTo_split_subset (q := xq (wL L)) (f := tb d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp (MM F))
      = (rV).view.loc (V d (cV L) (jV L)) ↦{fullShare} _ by rw [hrs])) $$ Hr'
  ihave Hs3 := (Entails.of_eq (show ((sV).view.loc (V d (cV L) (jV L)) ↦[(sV).view.set]{fullShare} _ : sProp (MM F))
      = (sV).view.loc (V d (cV L) (jV L)) ↦{fullShare} _ by rw [hss])) $$ Hs'
  sl_exec
  sl_step
  isplitl [Hi' Hx' Ho']
  · isplitl [Hi']; · iapply (Entails.of_eq (pts_iRowK (F := F) d L _)); iexact Hi'
    isplitl [Hx']; · iexact Hx'
    iapply (Entails.of_eq (pts_oRowK (F := F) d L _))
    have hp : ∀ x, tile_body.sl.dma0_1 tb ix d L hpre fs fr x = og tb ix d ((orowK L).emb x) := by
      intro x
      unfold tile_body.sl.dma0_1
      rw [View.write_whole_univ]
      simp only [Memref.view_whole, View.read_whole]
      exact landed_eq tb ix d L hpre fs rfl _ rfl _ x
    iapply (Entails.of_eq (pointsTo_congr (out_eq tb ix d L _ _ hp))) $$ Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

def coordsV (c : Fin (grid2.bound 0)) (s : Fin (grid2.bound 1)) : grid2.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 2 ()
      = SparseCore.onTile hcore2 hsub2 (fun c s => cc2_gather (coordsV c s)
          xV (Memref.isWhole_whole _) iV (Memref.isWhole_whole _) oV (Memref.isWhole_whole _)
          sV (Memref.isWhole_whole _) rV (Memref.isWhole_whole _) cc2_scratch2 cc2_scoped0 cc2_scoped1) ⟨⟩ c s := rfl

omit [FloatOps F] in
theorem obl_post {thr : Thread nD τ} {A B C : sProp (MM F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hpre : InRange ix) : (K (F := F)).TileObl (D (F := F)) 𝒱 (P tb ix o0) v₀ 0 := by
  intro d c i O W hO _ _
  simp only [show (P tb ix o0).ox = fun _ _ => 0 from rfl, add_zero]
  have hci : ((K (F := F)).core 0 c).val < grid2.bound 0 ∧ ((K (F := F)).sub 0 i).val < grid2.bound 1 := ⟨c.isLt, i.isLt⟩
  change _ ⊢ wp _ _ _ (Pipeline.liftProg (defs₀ (F := F) (.scVector ((K (F := F)).core 0 c) ((K (F := F)).sub 0 i)) 2 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body tb ix o0 d (coordsV ⟨_, hci.1⟩ ⟨_, hci.2⟩) hF hpre O W hO).trans (wp_mono frame _ _ fun _ => obl_post)

end Tile

/-! ## The operands split among the tiles and join again -/

theorem vecSplit : (K (F := F)).VecSplit' (P tb ix o0) 0 := by
  intro d c
  show (bigSep Finset.univ fun i : Fin ((K (F := F)).nSub 0) => goW tb ix o0 d (tileNo (Fin.cast nCore_zero c) (Fin.cast nSub_zero i))) ⊢ |={Set.univ}=> iprop(
      (bigSep Finset.univ fun i : Fin ((K (F := F)).nSub 0) => goW tb ix o0 d (tileNo (Fin.cast nCore_zero c) (Fin.cast nSub_zero i)))
      ∗ ((bigSep Finset.univ fun i : Fin ((K (F := F)).nSub 0) => tdW tb ix d (tileNo (Fin.cast nCore_zero c) (Fin.cast nSub_zero i)))
          -∗ (bigSep Finset.univ fun i : Fin ((K (F := F)).nSub 0) => tdW tb ix d (tileNo (Fin.cast nCore_zero c) (Fin.cast nSub_zero i)))))
  iintro H; imodintro
  isplitl [H]; · iexact H
  iintro H; iexact H

omit [FloatOps F] in
theorem iSet_eq (i : Fin 32) : iSet i = (irow i).set := by
  show ((View.whole (main_v14_scv : Ref sig .scVector)).slice (irow i)).set = _
  rw [View.set_slice]; exact Finset.map_refl
omit [FloatOps F] in
theorem oSet_eq (i : Fin 32) : oSet i = (orow i).set := by
  show ((View.whole (main_v16_scv : Ref sig .scVector)).slice (orow i)).set = _
  rw [View.set_slice]; exact Finset.map_refl
omit [FloatOps F] in
theorem iSets_disjoint : ∀ i ∈ (Finset.univ : Finset (Fin 32)), ∀ j ∈ (Finset.univ : Finset (Fin 32)), i ≠ j → Disjoint (iSet i) (iSet j) :=
  fun i _ j _ h => by rw [iSet_eq, iSet_eq]; exact Rect.part_disjoint idiv h
omit [FloatOps F] in
theorem oSets_disjoint : ∀ i ∈ (Finset.univ : Finset (Fin 32)), ∀ j ∈ (Finset.univ : Finset (Fin 32)), i ≠ j → Disjoint (oSet i) (oSet j) :=
  fun i _ j _ h => by rw [oSet_eq, oSet_eq]; exact Rect.part_disjoint odiv h
omit [FloatOps F] in
theorem iSets_cover : (Finset.univ : Finset (Fin 32)).biUnion iSet = Finset.univ :=
  (Finset.biUnion_congr rfl fun i _ => iSet_eq i).trans (Rect.biUnion_part idiv)
omit [FloatOps F] in
theorem oSets_cover : (Finset.univ : Finset (Fin 32)).biUnion oSet = Finset.univ :=
  (Finset.biUnion_congr rfl fun i _ => oSet_eq i).trans (Rect.biUnion_part odiv)

omit [FloatOps F] in
theorem iPts_split (d : Dev nD) (f : Buf (Elt F) (iLoc d)) :
    (iLoc d ↦{fullShare} f : sProp (MM F)) = bigSep Finset.univ fun i : Fin 32 => iLoc d ↦[iSet i]{fullShare} f := by
  rw [← pointsTo_biUnion Finset.univ (ℓ := iLoc d) iSet iSets_disjoint, iSets_cover]; try rfl
omit [FloatOps F] in
theorem oPts_split (d : Dev nD) (f : Buf (Elt F) (oLoc d)) :
    (oLoc d ↦{fullShare} f : sProp (MM F)) = bigSep Finset.univ fun i : Fin 32 => oLoc d ↦[oSet i]{fullShare} f := by
  rw [← pointsTo_biUnion Finset.univ (ℓ := oLoc d) oSet oSets_disjoint, oSets_cover]; try rfl

omit [FloatOps F] in
theorem pts_shares {d : Dev nD} (f : Buf (Elt F) (xLoc d)) :
    (bigSep Finset.univ fun w : Fin 32 => (xLoc d ↦{xq w} f : sProp (MM F))) = (xLoc d ↦{fullShare} f : sProp (MM F)) :=
  (pointsTo_leafOf Finset.univ f 5 fullShare).symm

/-- The tiles' numbers are the pairs of a SparseCore and a tile. -/
def tileEquiv : Fin 2 × Fin 16 ≃ Fin 32 where
  toFun p := tileNo p.1 p.2
  invFun w := (⟨w.val % 2, Nat.mod_lt _ (by decide)⟩, ⟨w.val / 2, by omega⟩)
  left_inv p := by
    refine Prod.ext (Fin.ext ?_) (Fin.ext ?_) <;> simp only [tileNo] <;> omega
  right_inv w := Fin.ext (by simp only [tileNo]; omega)

omit [FloatOps F] in
/-- What the tiles hold by SparseCore and tile is what they hold by number. -/
theorem bigSep_tiles (Φ : Fin 32 → sProp (MM F)) :
    (bigSep Finset.univ fun c : Fin ((K (F := F)).nCore 0) => bigSep Finset.univ fun i : Fin ((K (F := F)).nSub 0) =>
        Φ (tileNo (Fin.cast nCore_zero c) (Fin.cast nSub_zero i)))
      = bigSep Finset.univ Φ := by
  rw [bigSep_univ_equiv tileEquiv Φ, bigSep_univ_prod]
  rfl

/-- The call is handed the row numbers, the table and the output, whole, -/
theorem st0_eq (d : Dev nD) :
    (bigSep Finset.univ fun c : Fin ((K (F := F)).nCore 0) => (P tb ix o0).st 0 d c)
      = iprop((iLoc d ↦{fullShare} ix d) ∗ (xLoc d ↦{fullShare} tb d) ∗ (oLoc d ↦{fullShare} o0 d)) := by
  refine (bigSep_tiles (fun w => goW tb ix o0 d w)).trans ?_
  rw [bigSep_sep', bigSep_sep', ← iPts_split, ← oPts_split, pts_shares (F := F) (tb d)]

/-- and brings them back, the output at the gathered rows. -/
theorem dn0_eq (d : Dev nD) :
    (bigSep Finset.univ fun c : Fin ((K (F := F)).nCore 0) => (P tb ix o0).dn 0 d c)
      = iprop((iLoc d ↦{fullShare} ix d) ∗ (xLoc d ↦{fullShare} tb d) ∗ (oLoc d ↦{fullShare} og tb ix d)) := by
  refine (bigSep_tiles (fun w => tdW tb ix d w)).trans ?_
  rw [bigSep_sep', bigSep_sep', ← iPts_split, ← oPts_split, pts_shares (F := F) (tb d)]

end Cert.Proof.Run

end
-- ==== Proof.Sim.lean ====
/-
  The first TensorCore region: the cosine similarities. One point of its grid reads one batch's features, prototype and
  feature norms, and leaves the batch's 8192 similarities; the region's array ends holding them all.
-/
module

public import proofs.«01_k».proof.Proof.Setup

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

namespace Sim

theorem z3 : (![0, 0, 0] : Fin 3 → ℕ) = fun _ => 0 := by decide

/-- One run of the body: the first three buffers read, the last left at the similarities. -/
theorem run (c : Dev nD) (i : grid0.Coords) (M0 : Memref sig .tc .vmem S1x8192x128 .f32) (h0 : M0.IsWhole)
    (M1 : Memref sig .tc .vmem S1x1x128 .f32) (h1 : M1.IsWhole) (M2 : Memref sig .tc .vmem S1x1x8192 .f32) (h2 : M2.IsWhole)
    (M3 : Memref sig .tc .vmem S1x1x8192 .f32) (h3 : M3.IsWhole)
    (X0 : S1x8192x128.Idx → Elt F .f32) (X1 : S1x1x128.Idx → Elt F .f32) (X2 : S1x1x8192.Idx → Elt F .f32)
    (E : Set ℕ) (Q : PUnit → sProp (MM F)) :
    iprop(owns (SparseCore.T c) M0 fullShare X0 ∗ owns (SparseCore.T c) M1 fullShare X1 ∗ owns (SparseCore.T c) M2 fullShare X2
        ∗ (∃ d, owns (SparseCore.T c) M3 fullShare d)
        ∗ (iprop(owns (SparseCore.T c) M0 fullShare X0 ∗ owns (SparseCore.T c) M1 fullShare X1 ∗ owns (SparseCore.T c) M2 fullShare X2
            ∗ owns (SparseCore.T c) M3 fullShare (k0_pay1 X0 X1 X2)) -∗ Q ⟨⟩))
      ⊢ wp frame (wpE (defs₀ (F := F)) 𝒱₀ (SparseCore.T c) none) E (cc0__sim_body i M0 h0 M1 h1 M2 h2 M3 h3) Q := by
  rw [cc0__sim_body_eq_skeleton]
  unfold cc0__sim_body_skel owns
  iintro ⟨⟨%f0, %e0, H0⟩, ⟨%f1, %e1, H1⟩, ⟨%f2, %e2, H2⟩, ⟨%d3, %f3, -, H3⟩, Hk⟩
  subst e0 e1 e2
  sl_exec
  sl_step
  iapply Hk
  isplitl [H0]; · iexists f0; isplitr; (· ipureintro; rfl); iexact H0
  isplitl [H1]; · iexists f1; isplitr; (· ipureintro; rfl); iexact H1
  isplitl [H2]; · iexists f2; isplitr; (· ipureintro; rfl); iexact H2
  iexists _; isplitr; swap; (· iexact H3)
  ipureintro
  rw [read_writes_whole (S := S1x1x8192) _ _ z3, readAt_whole (S := S1x8192x128) _ _ z3, readAt_whole (S := S1x1x128) _ _ z3,
    readAt_whole (S := S1x1x8192) _ _ z3]

variable (V : (c : Dev nD) → (b : Ref sig .tc) → Buf (Elt F) ((c : Thread nD τ).loc b))

/-- The blocks the pipeline fetches at a point, read off the entry valuation. -/
abbrev blk0 (c : Dev nD) (t : Fin cfg0.N) : S1x8192x128.Idx → Elt F .f32 := ((cfg0.win 0).blk t).view.read (Elt F) (V c main_arg0)
abbrev blk1 (c : Dev nD) (t : Fin cfg0.N) : S1x1x128.Idx → Elt F .f32 := ((cfg0.win 1).blk t).view.read (Elt F) (V c main_arg1)
abbrev blk2 (c : Dev nD) (t : Fin cfg0.N) : S1x1x8192.Idx → Elt F .f32 := ((cfg0.win 2).blk t).view.read (Elt F) (V c main_v1)

/-- The proof data: the four arrays at the entry valuation, the three inputs kept, the output at the similarities, the
    SparseCore call's debt carried along. -/
def dat (c : Dev nD) : Dat τ (Elt F) (HIx 1) ℕ UU ℕ cfg0 c where
  A w := V c (Pipeline.arrRef spec0 w)
  after w t := match w with
    | ⟨0, _⟩ => blk0 V c t
    | ⟨1, _⟩ => blk1 V c t
    | ⟨2, _⟩ => blk2 V c t
    | ⟨3, _⟩ => k0_pay1 (blk0 V c t) (blk1 V c t) (blk2 V c t)
  Φ _ := Pipeline.scopedRest spec0 c
  q _ := fullShare
  owed _ := (K (F := F)).Otc c 0
  recorded _ := {p | p.2 = none}

theorem before0 (c : Dev nD) (t : Fin cfg0.N) (d) : (dat V c).before 0 t d = blk0 V c t := by
  unfold Dat.before; rw [if_pos (fetch0_0 t)]; rfl
theorem before1 (c : Dev nD) (t : Fin cfg0.N) (d) : (dat V c).before 1 t d = blk1 V c t := by
  unfold Dat.before; rw [if_pos (fetch0_1 t)]; rfl
theorem before2 (c : Dev nD) (t : Fin cfg0.N) (d) : (dat V c).before 2 t d = blk2 V c t := by
  unfold Dat.before; rw [if_pos (fetch0_2 t)]; rfl

theorem body_obligation (c : Dev nD) : BodyObligation (dat V c) (defs₀ (F := F)) 𝒱₀ (none : HIx 1) Set.univ := fun t => by
  rw [bigSep_W0, bigSep_W0]
  rw [show (dat V c).owesAt none t.succ = (dat V c).owesAt none t.castSucc from rfl, show (dat V c).Φ t.succ = (dat V c).Φ t.castSucc from rfl]
  iintro ⟨HΦ, Howes, ⟨%d0, H0⟩, ⟨%d1, H1⟩, ⟨%d2, H2⟩, ⟨%d3, H3⟩⟩
  rw [before0, before1, before2]
  iapply (run c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3))
    (blk0 V c t) (blk1 V c t) (blk2 V c t) Set.univ)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Howes]; · iexact Howes
  isplitl [H0]; · iexact H0
  isplitl [H1]; · iexact H1
  isplitl [H2]; · iexact H2
  iexact H3

/-- The region's array after it, as the schedule assembles it. -/
def out (c : Dev nD) : Buf (Elt F) ((SparseCore.T c : Thread nD τ).loc main_v2) := (dat V c).arrAt 3 cfg0.N

/-- The similarities of all batches. -/
def sims (x0 : S64x8192x128.Idx → Elt F .f32) (x1 : S64x1x128.Idx → Elt F .f32) (x2 : S64x1x8192.Idx → Elt F .f32) :
    S64x1x8192.Idx → Elt F .f32 := fun i =>
  k0_pay1 (fun y => x0 (ix3 (i 0) (y 1) (y 2))) (fun y => x1 (ix3 (i 0) (y 1) (y 2))) (fun y => x2 (ix3 (i 0) (y 1) (y 2)))
    (ix3 (0 : Fin 1) (i 1) (i 2))

theorem index0 : ∀ t : Fin cfg0.N, win0_0.index t = ![(grid0.coords t 0).val, 0, 0] :=
  (by decide +kernel : ∀ t : Fin grid0.N, win0_0.index t = ![(grid0.coords t 0).val, 0, 0])
theorem index1 : ∀ t : Fin cfg0.N, win0_1.index t = ![(grid0.coords t 0).val, 0, 0] :=
  (by decide +kernel : ∀ t : Fin grid0.N, win0_1.index t = ![(grid0.coords t 0).val, 0, 0])
theorem index2 : ∀ t : Fin cfg0.N, win0_2.index t = ![(grid0.coords t 0).val, 0, 0] :=
  (by decide +kernel : ∀ t : Fin grid0.N, win0_2.index t = ![(grid0.coords t 0).val, 0, 0])
theorem index3 : ∀ t : Fin cfg0.N, win0_3.index t = ![(grid0.coords t 0).val, 0, 0] :=
  (by decide +kernel : ∀ t : Fin grid0.N, win0_3.index t = ![(grid0.coords t 0).val, 0, 0])

theorem out_eq (c : Dev nD) : out V c = sims (V c main_arg0) (V c main_arg1) (V c main_v1) := by
  refine (dat V c).arrAt_eq_of_covers 3 _ (by decide +kernel) fun t hf y => ?_
  blk_simp
  show k0_pay1 (blk0 V c t) (blk1 V c t) (blk2 V c t) y = sims _ _ _ _
  unfold sims
  have e0 : blk0 V c t = fun y' => V c main_arg0 (ix3 (((win0_3.blk t).view.emb y) 0) (y' 1) (y' 2)) := by
    funext y'
    show V c main_arg0 ((win0_0.blk t).view.emb y') = _
    congr 1
    have h0 : (y' 0).val < 1 := (y' 0).isLt
    have h0' : (y 0).val < 1 := (y 0).isLt
    blk_ext [index0, index3]
  have e1 : blk1 V c t = fun y' => V c main_arg1 (ix3 (((win0_3.blk t).view.emb y) 0) (y' 1) (y' 2)) := by
    funext y'
    show V c main_arg1 ((win0_1.blk t).view.emb y') = _
    congr 1
    have h0 : (y' 0).val < 1 := (y' 0).isLt
    have h0' : (y 0).val < 1 := (y 0).isLt
    blk_ext [index1, index3]
  have e2 : blk2 V c t = fun y' => V c main_v1 (ix3 (((win0_3.blk t).view.emb y) 0) (y' 1) (y' 2)) := by
    funext y'
    show V c main_v1 ((win0_2.blk t).view.emb y') = _
    congr 1
    have h0 : (y' 0).val < 1 := (y' 0).isLt
    have h0' : (y 0).val < 1 := (y 0).isLt
    blk_ext [index2, index3]
  rw [e0, e1, e2]
  congr 1
  have h0' : (y 0).val < 1 := (y 0).isLt
  blk_ext [index3]

/-- Both regions' data, of which this entry runs the first. -/
def pdats : (p : Fin 2) → (c : Dev nD) → Dat τ (Elt F) (HIx 1) ℕ UU ℕ (Pipeline.pin (pcfgs (F := F)) adm p) c
  | ⟨0, _⟩ => fun c => dat V c
  | ⟨1, _⟩ => fun c => junkDat c

variable (Vp : (c : Dev nD) → (b : Ref sig .tc) → Buf (Elt F) ((c : Thread nD τ).loc b))

set_option backward.isDefEq.respectTransparency.types false in
/-- The region at one entry: every unscoped buffer at `V` before it and at `Vp` after it, which differs at the output
    alone. -/
def reg (hVp_out : ∀ c, Vp c main_v2 = out V c) (hVp_ne : ∀ c (b : Ref sig .tc), b ≠ main_v2 → Vp c b = V c b) :
    Pipeline.RegionSeg (pcfgs (F := F)) adm (pdats V) (none : HIx 1) defs₀ 𝒱₀ (K (F := F)).L (K (F := F)).lev 0 where
  win := launch0.win.to₀
  block_pos := launch0.block_pos
  stage_whole := launch0.stage_whole
  K := PEmpty
  osem k := k.elim
  ho := Pipeline.OwnSemFacts.none _
  hbody c := (body_obligation V c).loose
  hwaits c := Pipeline.cellsWaits_intro _ _ _ 0 c fun w s t => (K (F := F)).mayWait_none _ (Otc_none c)
  pre c := iprop(unscopedBufs c (V c) ∗ oweTc c)
  post c := iprop(unscopedBufs c (Vp c) ∗ oweTc c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) launch0.win launch0.arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin oweTc
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest spec0 c from rfl]
    iintro ⟨-, -, Hr⟩; iexact Hr
  hout c := by
    rw [Pipeline.ownSems0_none, show (pdats V 0 c).Φ (Fin.last _) = Pipeline.scopedRest spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch0.win launch0.arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_arg0 (by decide)).symm
        · exact ((pdats V 0 c).arrAt_in 1 rfl _).trans (hVp_ne c main_arg1 (by decide)).symm
        · exact ((pdats V 0 c).arrAt_in 2 rfl _).trans (hVp_ne c main_v1 (by decide)).symm
        · exact (hVp_out c).symm)
      (fun b hb => hVp_ne c b fun h => hb (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin oweTc
    icases HO with ⟨%W, %hW, HO⟩; iexists W; isplitr
    · ipureintro
      intro p hp
      rcases hW hp with h | ⟨_, _, h⟩
      · exact h
      · rw [h]
    iexact HO

end Sim

end Cert.Proof.Run

end
-- ==== Proof.Topk.lean ====
/-
  The second TensorCore region: the 64 rounds of the selection. A round reads each row's extreme value, finds the first
  column that has it, records that column and overwrites it with a mark. The body keeps the two working copies of the
  similarities in scratch buffers; it leaves the two arrays of columns.
-/
module

public import proofs.«01_k».proof.Proof.Setup

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

namespace Topk

theorem z2 : (![0, 0] : Fin 2 → ℕ) = fun _ => 0 := by decide

/-- What the rounds carry: the columns chosen, the rows' extremes. -/
abbrev Acc (F : FTy → Type) : Type := IVec S64x64 32 × IVec S64x64 32 × FVec F S64x1 .f32 × FVec F S64x1 .f32
/-- With the two working copies. -/
abbrev St (F : FTy → Type) : Type := Acc F × FVec F S64x8192 .f32 × FVec F S64x8192 .f32

/-- One round. -/
def next (k : Fin k1_t1_loop.trips) (s : St F) : St F :=
  ((k1_pay16 k s.1.1 s.1.2.2.1 s.2.1, k1_pay17 k s.1.2.1 s.1.2.2.2 s.2.2, k1_pay13 s.1.2.2.1 s.2.1, k1_pay14 s.1.2.2.2 s.2.2),
    k1_pay11 s.1.2.2.1 s.2.1, k1_pay12 s.1.2.2.2 s.2.2)

/-- The state before round `k`. -/
def rounds (s₀ : St F) : ℕ → St F
  | 0 => s₀
  | k + 1 => if h : k < k1_t1_loop.trips then next ⟨k, h⟩ (rounds s₀ k) else rounds s₀ k

theorem rounds_succ (s₀ : St F) (k : Fin k1_t1_loop.trips) : rounds s₀ (k.val + 1) = next k (rounds s₀ k.val) := by
  rw [rounds, dif_pos k.isLt]

theorem trip (c : Dev nD) (arg0 : Memref sig .tc .vmem S64x8192 .f32) (harg0 : arg0.IsWhole) (arg1 : Memref sig .tc .vmem S64x64 .i32) (harg1 : arg1.IsWhole) (arg2 : Memref sig .tc .vmem S64x64 .i32) (harg2 : arg2.IsWhole) (arg3 : Memref sig .tc .vmem S64x8192 .f32) (harg3 : arg3.IsWhole) (arg4 : Memref sig .tc .vmem S64x8192 .f32) (harg4 : arg4.IsWhole)
    (k : Fin k1_t1_loop.trips) (E : Set ℕ) (acc : Acc F) (s3 s4 : FVec F S64x8192 .f32) :
    iprop(owns (c : Thread nD τ) arg3 fullShare s3 ∗ owns (c : Thread nD τ) arg4 fullShare s4)
      ⊢ (wp frame (wpE (defs₀ (F := F)) 𝒱₀ (c : Thread nD τ) none) E (k1_t1_body (F := F) arg0 harg0 arg1 harg1 arg2 harg2 arg3 harg3 arg4 harg4 k acc)
          (fun yld => iprop(⌜yld = (next k (acc, s3, s4)).1⌝ ∗ owns (c : Thread nD τ) arg3 fullShare (next k (acc, s3, s4)).2.1
            ∗ owns (c : Thread nD τ) arg4 fullShare (next k (acc, s3, s4)).2.2)) : sProp (MM F)) := by
  have hk : k.val < 64 := Nat.lt_of_lt_of_le k.isLt k1_t1_abs.2.1
  unfold k1_t1_body owns
  iintro ⟨⟨%f3, %e3, H3⟩, ⟨%f4, %e4, H4⟩⟩
  subst e3 e4
  sl_exec
  sl_step
  isplitr
  · ipureintro
    rw [readAt_whole (S := S64x8192) _ _ z2, readAt_whole (S := S64x8192) _ _ z2]
    rfl
  isplitl [H3]
  · iexists _; isplitr; swap; (· iexact H3)
    ipureintro
    simp only [next]
    rw [read_writes_whole (S := S64x8192) _ _ z2, readAt_whole (S := S64x8192) _ _ z2]
  · iexists _; isplitr; swap; (· iexact H4)
    ipureintro
    simp only [next]
    rw [read_writes_whole (S := S64x8192) _ _ z2, readAt_whole (S := S64x8192) _ _ z2]

set_option warn.classDefReducibility false in
/-- The loop by its invariant: before round `k` the working copies and the carried values are the rounds' state. -/
@[sl_loop] def loopInv (c : Dev nD) (E : Set ℕ) (arg0 : Memref sig .tc .vmem S64x8192 .f32) (harg0 : arg0.IsWhole) (arg1 : Memref sig .tc .vmem S64x64 .i32) (harg1 : arg1.IsWhole) (arg2 : Memref sig .tc .vmem S64x64 .i32) (harg2 : arg2.IsWhole) (arg3 : Memref sig .tc .vmem S64x8192 .f32) (harg3 : arg3.IsWhole) (arg4 : Memref sig .tc .vmem S64x8192 .f32) (harg4 : arg4.IsWhole)
    (G3 : BufTy.Contents (Elt F) arg3.view.ty) (G4 : BufTy.Contents (Elt F) arg4.view.ty) (init : Acc F) :
    LoopInvTy_k1_t1 (F := F) (HIx 1) ℕ UU ℕ 𝒱₀ c none E arg0 harg0 arg1 harg1 arg2 harg2 arg3 harg3 arg4 harg4 init where
  inv k acc := iprop((∃ f, (arg3.view.loc (c : Thread nD τ) ↦[arg3.view.set]{fullShare} f) ∗ ⌜arg3.view.read (Elt F) f = (rounds (init, arg3.view.read (Elt F) G3, arg4.view.read (Elt F) G4) k).2.1⌝)
    ∗ (∃ f, (arg4.view.loc (c : Thread nD τ) ↦[arg4.view.set]{fullShare} f) ∗ ⌜arg4.view.read (Elt F) f = (rounds (init, arg3.view.read (Elt F) G3, arg4.view.read (Elt F) G4) k).2.2⌝)
    ∗ ⌜acc = (rounds (init, arg3.view.read (Elt F) G3, arg4.view.read (Elt F) G4) k).1⌝)
  step k acc := by
    iintro ⟨⟨%f3, H3, %h3⟩, ⟨%f4, H4, %h4⟩, %hacc⟩
    iapply (wp_wand_r Idealize.ShloMosaic.frame (wpE (defs₀ (F := F)) 𝒱₀ (c : Thread nD τ) none) E)
    isplitl [H3 H4]
    · iapply (trip c arg0 harg0 arg1 harg1 arg2 harg2 arg3 harg3 arg4 harg4 k E acc (arg3.view.read (Elt F) f3) (arg4.view.read (Elt F) f4))
      unfold owns
      isplitl [H3]; · iexists f3; isplitr; (· ipureintro; rfl); iexact H3
      iexists f4; isplitr; (· ipureintro; rfl); iexact H4
    · unfold owns
      iintro %yld ⟨%hy, ⟨%g3, %e3, H3⟩, ⟨%g4, %e4, H4⟩⟩
      rw [hacc, h3, h4, ← rounds_succ] at *
      isplitl [H3]; · iexists g3; isplitl [H3]; (· iexact H3); ipureintro; exact e3
      isplitl [H4]; · iexists g4; isplitl [H4]; (· iexact H4); ipureintro; exact e4
      ipureintro; exact hy

/-- The state the rounds start from: nothing chosen, each row's extremes, two copies of the similarities. -/
def start (x : FVec F S64x8192 .f32) : St F := ((k1_pay6, k1_pay6, k1_pay4 x, k1_pay5 x), k1_pay2 x, k1_pay3 x)

/-- What the rounds end with. -/
abbrev final (x : FVec F S64x8192 .f32) : St F := rounds (start x) k1_t1_loop.trips

theorem run (c : Dev nD) (arg0 : Memref sig .tc .vmem S64x8192 .f32) (harg0 : arg0.IsWhole) (arg1 : Memref sig .tc .vmem S64x64 .i32) (harg1 : arg1.IsWhole) (arg2 : Memref sig .tc .vmem S64x64 .i32) (harg2 : arg2.IsWhole) (arg3 : Memref sig .tc .vmem S64x8192 .f32) (harg3 : arg3.IsWhole) (arg4 : Memref sig .tc .vmem S64x8192 .f32) (harg4 : arg4.IsWhole)
    (x : FVec F S64x8192 .f32) (E : Set ℕ) (Q : PUnit → sProp (MM F)) :
    iprop(owns (c : Thread nD τ) arg0 fullShare x ∗ (∃ d, owns (c : Thread nD τ) arg1 fullShare d) ∗ (∃ d, owns (c : Thread nD τ) arg2 fullShare d)
        ∗ (∃ d, owns (c : Thread nD τ) arg3 fullShare d) ∗ (∃ d, owns (c : Thread nD τ) arg4 fullShare d)
        ∗ (iprop(owns (c : Thread nD τ) arg0 fullShare x ∗ owns (c : Thread nD τ) arg1 fullShare (final x).1.1 ∗ owns (c : Thread nD τ) arg2 fullShare (final x).1.2.1
            ∗ (∃ d, owns (c : Thread nD τ) arg3 fullShare d) ∗ (∃ d, owns (c : Thread nD τ) arg4 fullShare d)) -∗ Q ⟨⟩))
      ⊢ wp frame (wpE (defs₀ (F := F)) 𝒱₀ (c : Thread nD τ) none) E (cc1__topk_body arg0 harg0 arg1 harg1 arg2 harg2 arg3 harg3 arg4 harg4) Q := by
  rw [cc1__topk_body_eq_skeleton]
  unfold cc1__topk_body_skel owns
  iintro ⟨⟨%f0, %e0, H0⟩, ⟨%d1, %f1, -, H1⟩, ⟨%d2, %f2, -, H2⟩, ⟨%d3, %f3, -, H3⟩, ⟨%d4, %f4, -, H4⟩, Hk⟩
  subst e0
  sl_exec
  sl_step
  have e3 : ∀ g, arg3.view.read (Elt F) (arg3.view.writes (Elt F) g (run.sl.H3_1 c arg0 f0)) = k1_pay2 (arg0.view.read (Elt F) f0) := fun g => by
    unfold run.sl.H3_1
    rw [read_writes_whole (S := S64x8192) _ _ z2, readAt_whole (S := S64x8192) _ _ z2]
  have e4 : ∀ g, arg4.view.read (Elt F) (arg4.view.writes (Elt F) g (run.sl.H4_1 c arg0 f0)) = k1_pay3 (arg0.view.read (Elt F) f0) := fun g => by
    unfold run.sl.H4_1
    rw [read_writes_whole (S := S64x8192) _ _ z2, readAt_whole (S := S64x8192) _ _ z2]
  iapply Hk
  isplitl [H0]; · iexists f0; isplitr; (· ipureintro; rfl); iexact H0
  isplitl [H1]
  · iexists _; isplitr; swap; (· iexact H1)
    ipureintro
    rw [read_writes_whole (S := S64x64) _ _ z2, e3, e4, readAt_whole (S := S64x8192) _ _ z2]
    rfl
  isplitl [H2]
  · iexists _; isplitr; swap; (· iexact H2)
    ipureintro
    rw [read_writes_whole (S := S64x64) _ _ z2, e3, e4, readAt_whole (S := S64x8192) _ _ z2]
    rfl
  isplitl [H3]; · iexists _; iexists _; isplitr; swap; (· iexact H3); ipureintro; rfl
  iexists _; iexists _; isplitr; swap; (· iexact H4); ipureintro; rfl

variable (V : (c : Dev nD) → (b : Ref sig .tc) → Buf (Elt F) ((c : Thread nD τ).loc b))

/-- The block the pipeline fetches, read off the entry valuation. -/
abbrev blkx (c : Dev nD) (t : Fin cfg1.N) : S64x8192.Idx → Elt F .f32 := ((cfg1.win 0).blk t).view.read (Elt F) (V c main_v3)

/-- The proof data: the similarities kept, the two outputs at the rounds' columns, the scratch buffers in the invariant,
    the SparseCore call's debt carried along. -/
def dat (c : Dev nD) : Dat τ (Elt F) (HIx 1) ℕ UU ℕ cfg1 c where
  A w := V c (Pipeline.arrRef spec1 w)
  after w t := match w with
    | ⟨0, _⟩ => blkx V c t
    | ⟨1, _⟩ => (final (blkx V c t)).1.1
    | ⟨2, _⟩ => (final (blkx V c t)).1.2.1
  Φ _ := Pipeline.scopedRest spec1 c
  q _ := fullShare
  owed _ := (K (F := F)).Otc c 0
  recorded _ := {p | p.2 = none}

theorem before0 (c : Dev nD) (t : Fin cfg1.N) (d) : (dat V c).before 0 t d = blkx V c t := by
  unfold Dat.before; rw [if_pos (fetch1_0 t)]; rfl

theorem owns_pt (c : Dev nD) (b : Ref sig .tc) :
    (iprop(∃ d, owns (c : Thread nD τ) (Memref.whole b) fullShare d) : sProp (MM F)) = iprop(∃ f : Buf (Elt F) ((c : Thread nD τ).loc b), ((c : Thread nD τ).loc b) ↦{fullShare} f) :=
  (Memref.isWhole_whole b).exists_owns_eq fullShare

theorem body_obligation (c : Dev nD) : BodyObligation (dat V c) (defs₀ (F := F)) 𝒱₀ (none : HIx 1) Set.univ := fun t => by
  rw [bigSep_W1, bigSep_W1]
  rw [show (dat V c).owesAt none t.succ = (dat V c).owesAt none t.castSucc from rfl,
    show (dat V c).Φ t.succ = Pipeline.scopedRest spec1 c from rfl, show (dat V c).Φ t.castSucc = Pipeline.scopedRest spec1 c from rfl, scopedRest1_eq,
    ← owns_pt c cc1_scratch0, ← owns_pt c cc1_scratch1]
  iintro ⟨⟨S0, S1, S2, S3, S4, S5, S6, S7, H3, H4⟩, Howes, ⟨%d0, H0⟩, ⟨%d1, H1⟩, ⟨%d2, H2⟩⟩
  rw [before0]
  iapply (run c (win1_0.stage (cfg1.slots t 0)) (hstage1_0 0) (win1_1.stage (cfg1.slots t 1)) (hstage1_1 0) (win1_2.stage (cfg1.slots t 2)) (hstage1_2 0) (Memref.whole cc1_scratch0) (Memref.isWhole_whole _) (Memref.whole cc1_scratch1) (Memref.isWhole_whole _)
    (blkx V c t) Set.univ)
  isplitl [H0]; · iexact H0
  isplitl [H1]; · iexists _; iexact H1
  isplitl [H2]; · iexists _; iexact H2
  isplitl [H3]; · iexact H3
  isplitl [H4]; · iexact H4
  iintro ⟨H0, H1, H2, H3, H4⟩
  isplitl [S0 S1 S2 S3 S4 S5 S6 S7 H3 H4]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [H3]; · iexact H3
    iexact H4
  isplitl [Howes]; · iexact Howes
  isplitl [H0]; · iexact H0
  isplitl [H1]; · iexact H1
  iexact H2

theorem blkx_eq (c : Dev nD) (t : Fin cfg1.N) : blkx V c t = V c main_v3 := by
  obtain rfl := fin_N1 t
  funext y
  show V c main_v3 ((win1_0.blk t1_0).view.emb y) = _
  congr 1
  have e : win1_0.index t1_0 = ![0, 0] := by decide +kernel
  blk_ext [e]

/-- The columns chosen, as the schedule assembles the two arrays. -/
theorem out1_eq (c : Dev nD) : (dat V c).arrAt 1 cfg1.N = (final (V c main_v3)).1.1 := by
  refine (dat V c).arrAt_eq_of_covers 1 _ (by decide +kernel) fun t hf y => ?_
  blk_simp
  show (final (blkx V c t)).1.1 y = _
  rw [blkx_eq]
  obtain rfl := fin_N1 t
  congr 1
  have e : win1_1.index t1_0 = ![0, 0] := by decide +kernel
  blk_ext [e]

theorem out2_eq (c : Dev nD) : (dat V c).arrAt 2 cfg1.N = (final (V c main_v3)).1.2.1 := by
  refine (dat V c).arrAt_eq_of_covers 2 _ (by decide +kernel) fun t hf y => ?_
  blk_simp
  show (final (blkx V c t)).1.2.1 y = _
  rw [blkx_eq]
  obtain rfl := fin_N1 t
  congr 1
  have e : win1_2.index t1_0 = ![0, 0] := by decide +kernel
  blk_ext [e]

/-- Both regions' data, of which this entry runs the second. -/
def pdats : (p : Fin 2) → (c : Dev nD) → Dat τ (Elt F) (HIx 1) ℕ UU ℕ (Pipeline.pin (pcfgs (F := F)) adm p) c
  | ⟨0, _⟩ => fun c => junkDat c
  | ⟨1, _⟩ => fun c => dat V c

variable (Vp : (c : Dev nD) → (b : Ref sig .tc) → Buf (Elt F) ((c : Thread nD τ).loc b))

set_option backward.isDefEq.respectTransparency.types false in
/-- The region at one entry: every unscoped buffer at `V` before it and at `Vp` after it, which differs at the two
    outputs alone. -/
def reg (hVp_out1 : ∀ c, Vp c main_v4_0 = (final (V c main_v3)).1.1) (hVp_out2 : ∀ c, Vp c main_v4_1 = (final (V c main_v3)).1.2.1)
    (hVp_ne : ∀ c (b : Ref sig .tc), b ≠ main_v4_0 → b ≠ main_v4_1 → Vp c b = V c b) :
    Pipeline.RegionSeg (pcfgs (F := F)) adm (pdats V) (none : HIx 1) defs₀ 𝒱₀ (K (F := F)).L (K (F := F)).lev 1 where
  win := launch1.win.to₀
  block_pos := launch1.block_pos
  stage_whole := launch1.stage_whole
  K := PEmpty
  osem k := k.elim
  ho := Pipeline.OwnSemFacts.none _
  hbody c := (body_obligation V c).loose
  hwaits c := Pipeline.cellsWaits_intro _ _ _ 1 c fun w s t => (K (F := F)).mayWait_none _ (Otc_none c)
  pre c := iprop(unscopedBufs c (V c) ∗ oweTc c)
  post c := iprop(unscopedBufs c (Vp c) ∗ oweTc c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 1) (pcfgs (F := F)) adm (pdats V) launch1.win launch1.arr_whole c
      ((pdats V 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin oweTc
      icases HO with ⟨%W, %hW, HO⟩; iexists W; isplitr; · ipureintro; exact fun p hp => Or.inl (hW p hp)
      iexact HO
    isplitr; · iempintro
    iexact Hrest
  hin c := by
    rw [show (pdats V 1 c).Φ 0 = Pipeline.scopedRest spec1 c from rfl]
    iintro ⟨-, -, Hr⟩; iexact Hr
  hout c := by
    rw [Pipeline.ownSems0_none, show (pdats V 1 c).Φ (Fin.last _) = Pipeline.scopedRest spec1 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch1.win launch1.arr_whole c
      (pdats V) ((pdats V 1 c).share_full fun _ => rfl) (V c) (Vp c) ((pdats V 1 c).arrAt · cfg1.N)
      (fun w => by
        fin_cases w
        · exact ((pdats V 1 c).arrAt_in 0 rfl _).trans (hVp_ne c main_v3 (by decide) (by decide)).symm
        · exact (out1_eq V c).trans (hVp_out1 c).symm
        · exact (out2_eq V c).trans (hVp_out2 c).symm)
      (fun b hb => hVp_ne c b (fun h => hb (h ▸ Finset.mem_image.mpr ⟨1, Finset.mem_univ _, rfl⟩))
        fun h => hb (h ▸ Finset.mem_image.mpr ⟨2, Finset.mem_univ _, rfl⟩))
    iintro ⟨Ha, HO, -, Hrest⟩
    imodintro
    isplitl [Ha Hrest]
    · iapply hjoin; isplitl [Ha] <;> iassumption
    unfold Pipeline.Dat.owesAt Pipeline.owesWithin oweTc
    icases HO with ⟨%W, %hW, HO⟩; iexists W; isplitr
    · ipureintro
      intro p hp
      rcases hW hp with h | ⟨_, _, h⟩
      · exact h
      · rw [h]
    iexact HO

end Topk

end Cert.Proof.Run

end
-- ==== Proof.RunMain.lean ====
/-
  The run of @main: the norms on the host, the two TensorCore regions, the row numbers on the host, the SparseCore
  call, the two halves of its rows.
-/
module

public import proofs.«01_k».proof.Proof.Tile
public import proofs.«01_k».proof.Proof.Sim
public import proofs.«01_k».proof.Proof.Topk
public import Idealize.ShloMosaic.Lib.StableHlo.Run

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

open Idealize.ShloMosaic.StableHlo

/-! ## The host's stretches -/

/-- The norms of the rows, and the same with a middle axis. -/
abbrev opsNorm : List (HloOp τ sig (Elt F)) :=
  [ TRef.binary (TRef.of (T := ⟨S64x8192x128, .f32⟩) main_arg0) (TRef.of (T := ⟨S64x8192x128, .f32⟩) main_arg0) (TRef.of (T := ⟨S64x8192x128, .f32⟩) main_call0_v0) mulf,
    TRef.nullary (TRef.of (T := ⟨S_, .f32⟩) main_call0_cst) (constant S_ .f32 0x00000000#32),
    TRef.binary (TRef.of (T := ⟨S64x8192x128, .f32⟩) main_call0_v0) (TRef.of (T := ⟨S_, .f32⟩) main_call0_cst) (TRef.of (T := ⟨S64x8192, .f32⟩) main_call0_v1) (fun x v => Host.reduceAdd x v reducesTo_S64x8192x128_S64x8192_d2 h_S_),
    TRef.unary (TRef.of (T := ⟨S64x8192, .f32⟩) main_call0_v1) (TRef.of (T := ⟨S64x8192, .f32⟩) main_v0) Host.sqrt,
    unary main_v0 main_v1 (broadcastInDim S64x1x8192 ![0, 2] bcast_S64x8192_S64x1x8192_0_2 : (⟨S64x8192, .f32⟩ : BufTy).Contents (Elt F) → (⟨S64x1x8192, .f32⟩ : BufTy).Contents (Elt F)) ]

/-- The similarities without their middle axis. -/
abbrev opsFlat : List (HloOp τ sig (Elt F)) :=
  [ StableHlo.reshape main_v2 main_v3 (rfl : (.f32 : EltTy) = .f32) shapeCasts_S64x1x8192_S64x8192 ]

/-- The row numbers of the table, and the table. -/
abbrev opsRows : List (HloOp τ sig (Elt F)) :=
  [ nullary main_v5 (iotaInDim S64 32 0),
    nullary main_c (constantI S_ 32 8192#32),
    unary main_c main_v6 (broadcastInDim S64 ![] bcast_S_S64 : (⟨S_, .i32⟩ : BufTy).Contents (Elt F) → (⟨S64, .i32⟩ : BufTy).Contents (Elt F)),
    binary main_v5 main_v6 main_v7 (muli : (⟨S64, .i32⟩ : BufTy).Contents (Elt F) → (⟨S64, .i32⟩ : BufTy).Contents (Elt F) → (⟨S64, .i32⟩ : BufTy).Contents (Elt F)),
    unary main_v7 main_v8 (broadcastInDim S64x1 ![0] bcast_S64_S64x1_0 : (⟨S64, .i32⟩ : BufTy).Contents (Elt F) → (⟨S64x1, .i32⟩ : BufTy).Contents (Elt F)),
    unary main_v8 main_v9 (broadcastInDim S64x64 ![0, 1] bcast_S64x1_S64x64_0_1 : (⟨S64x1, .i32⟩ : BufTy).Contents (Elt F) → (⟨S64x64, .i32⟩ : BufTy).Contents (Elt F)),
    binary main_v4_0 main_v9 main_v10 (addi : (⟨S64x64, .i32⟩ : BufTy).Contents (Elt F) → (⟨S64x64, .i32⟩ : BufTy).Contents (Elt F) → (⟨S64x64, .i32⟩ : BufTy).Contents (Elt F)),
    unary main_v8 main_v11 (broadcastInDim S64x64 ![0, 1] bcast_S64x1_S64x64_0_1 : (⟨S64x1, .i32⟩ : BufTy).Contents (Elt F) → (⟨S64x64, .i32⟩ : BufTy).Contents (Elt F)),
    binary main_v4_1 main_v11 main_v12 (addi : (⟨S64x64, .i32⟩ : BufTy).Contents (Elt F) → (⟨S64x64, .i32⟩ : BufTy).Contents (Elt F) → (⟨S64x64, .i32⟩ : BufTy).Contents (Elt F)),
    binary main_v10 main_v12 main_v13 ((fun a b => concatenate S128x64 0 [⟨S64x64, a⟩, ⟨S64x64, b⟩] concatenates_S64x64_S64x64_S128x64_d0) : (⟨S64x64, .i32⟩ : BufTy).Contents (Elt F) → (⟨S64x64, .i32⟩ : BufTy).Contents (Elt F) → (⟨S128x64, .i32⟩ : BufTy).Contents (Elt F)),
    StableHlo.reshape main_v13 main_v14 (rfl : (.i32 : EltTy) = .i32) shapeCasts_S128x64_S8192,
    StableHlo.reshape main_arg0 main_v15 (rfl : (.f32 : EltTy) = .f32) shapeCasts_S64x8192x128_S524288x128 ]

/-- The gathered rows as the two results. -/
abbrev opsSplit : List (HloOp τ sig (Elt F)) :=
  [ StableHlo.reshape main_v16 main_v17 (rfl : (.f32 : EltTy) = .f32) shapeCasts_S8192x128_S2x64x64x128,
    unary main_v17 main_v18 ((extractStridedSlice S1x64x64x128 ![0, 0, 0, 0] · slices_S2x64x64x128_S1x64x64x128_0_0_0_0) : (⟨S2x64x64x128, .f32⟩ : BufTy).Contents (Elt F) → (⟨S1x64x64x128, .f32⟩ : BufTy).Contents (Elt F)),
    StableHlo.reshape main_v18 main_v19 (rfl : (.f32 : EltTy) = .f32) shapeCasts_S1x64x64x128_S64x64x128,
    unary main_v17 main_v20 ((extractStridedSlice S1x64x64x128 ![1, 0, 0, 0] · slices_S2x64x64x128_S1x64x64x128_1_0_0_0) : (⟨S2x64x64x128, .f32⟩ : BufTy).Contents (Elt F) → (⟨S1x64x64x128, .f32⟩ : BufTy).Contents (Elt F)),
    StableHlo.reshape main_v20 main_v21 (rfl : (.f32 : EltTy) = .f32) shapeCasts_S1x64x64x128_S64x64x128 ]

/-- @main by its stretches. -/
theorem main_eq (d : Dev nD) : main (F := F) d =
    (seq opsNorm >>= fun _ =>
      SparseCore.liftProg (Prog.op (.customCall (Pipeline.entry 0) ()) Prog.ret) >>= fun _ =>
      seq opsFlat >>= fun _ =>
      SparseCore.liftProg (Prog.op (.customCall (Pipeline.entry 1) ()) Prog.ret) >>= fun _ =>
      seq opsRows >>= fun _ =>
      sc.run d 0 >>= fun _ =>
      seq opsSplit >>= fun _ => pure ⟨⟩) := rfl

theorem bufs_sub {l : List (HloOp τ sig (Elt F))} (h : l.Forall fun op => op.bufs ⊆ tcRefs τ sig) : ∀ op ∈ l, op.bufs ⊆ Pipeline.ucRefs τ sig :=
  fun op ho => Pipeline.sub_ucRefs op ((List.forall_iff_forall_mem.mp h) op ho)
theorem none_fresh {l : List (HloOp τ sig (Elt F))} (h : l.Forall fun op => op.fresh = ∅) : ∀ op ∈ l, op.fresh = ∅ :=
  List.forall_iff_forall_mem.mp h
theorem opsNorm_sub : ∀ op ∈ (opsNorm : List (HloOp τ sig (Elt F))), op.bufs ⊆ Pipeline.ucRefs τ sig :=
  bufs_sub ⟨binary_bufs_sub .., nullary_bufs_sub .., binary_bufs_sub .., unary_bufs_sub .., unary_bufs_sub ..⟩
theorem opsFlat_sub : ∀ op ∈ (opsFlat : List (HloOp τ sig (Elt F))), op.bufs ⊆ Pipeline.ucRefs τ sig :=
  bufs_sub (reshape_bufs_sub ..)
theorem opsRows_sub : ∀ op ∈ (opsRows : List (HloOp τ sig (Elt F))), op.bufs ⊆ Pipeline.ucRefs τ sig :=
  bufs_sub ⟨nullary_bufs_sub .., nullary_bufs_sub .., unary_bufs_sub .., binary_bufs_sub .., unary_bufs_sub .., unary_bufs_sub .., binary_bufs_sub ..,
    unary_bufs_sub .., binary_bufs_sub .., binary_bufs_sub .., reshape_bufs_sub .., reshape_bufs_sub ..⟩
theorem opsSplit_sub : ∀ op ∈ (opsSplit : List (HloOp τ sig (Elt F))), op.bufs ⊆ Pipeline.ucRefs τ sig :=
  bufs_sub ⟨reshape_bufs_sub .., unary_bufs_sub .., reshape_bufs_sub .., unary_bufs_sub .., reshape_bufs_sub ..⟩
theorem opsNorm_fresh : ∀ op ∈ (opsNorm : List (HloOp τ sig (Elt F))), op.fresh = ∅ := none_fresh ⟨rfl, rfl, rfl, rfl, rfl⟩
theorem opsFlat_fresh : ∀ op ∈ (opsFlat : List (HloOp τ sig (Elt F))), op.fresh = ∅ := none_fresh (show _ = ∅ from rfl)
theorem opsRows_fresh : ∀ op ∈ (opsRows : List (HloOp τ sig (Elt F))), op.fresh = ∅ :=
  none_fresh ⟨rfl, rfl, rfl, rfl, rfl, rfl, rfl, rfl, rfl, rfl, rfl, rfl⟩
theorem opsSplit_fresh : ∀ op ∈ (opsSplit : List (HloOp τ sig (Elt F))), op.fresh = ∅ := none_fresh ⟨rfl, rfl, rfl, rfl, rfl⟩

/-! ## What the buffers hold along the run -/

variable (m : (ℓ : Loc nD τ sig) → Buf (Elt F) ℓ) (ρ : Dev nD → PrngReg)

def W0 (d : Dev nD) : Valuation τ sig (Elt F) := fun b => m (d, b)
def W1 (d : Dev nD) : Valuation τ sig (Elt F) := after opsNorm (W0 m d)
/-- What the first region leaves: the similarities. -/
def sim2 (d : Dev nD) : S64x1x8192.Idx → Elt F .f32 := Sim.sims (W1 m d main_arg0) (W1 m d main_arg1) (W1 m d main_v1)
def W2 (d : Dev nD) : Valuation τ sig (Elt F) := Function.update (W1 m d) (Proc.devRef .tc main_v2) (sim2 m d)
def W3 (d : Dev nD) : Valuation τ sig (Elt F) := after opsFlat (W2 m d)
/-- What the second region leaves: the column numbers. -/
def cols (d : Dev nD) : Topk.Acc F := (Topk.final (W3 m d main_v3)).1
def W4 (d : Dev nD) : Valuation τ sig (Elt F) :=
  Function.update (Function.update (W3 m d) (Proc.devRef .tc main_v4_0) (cols m d).1) (Proc.devRef .tc main_v4_1) (cols m d).2.1
def W5 (d : Dev nD) : Valuation τ sig (Elt F) := after opsRows (W4 m d)
abbrev tbl (d : Dev nD) : Buf (Elt F) (xLoc d) := W5 m d main_v15
abbrev rows (d : Dev nD) : Buf (Elt F) (iLoc d) := W5 m d main_v14
abbrev out0 (d : Dev nD) : Buf (Elt F) (oLoc d) := W5 m d main_v16
def W6 (d : Dev nD) : Valuation τ sig (Elt F) := Function.update (W5 m d) (Proc.devRef .tc main_v16) (og (tbl m) (rows m) d)
def W7 (d : Dev nD) : Valuation τ sig (Elt F) := after opsSplit (W6 m d)

/-! ## The TensorCore's state before the call, as the regions hold it -/

/-- What of the TensorCore's state before the call no region touches. -/
def tcRest (d : Dev nD) : sProp (MM F) :=
  iprop(atPos EH ((K (F := F)).doneCell d) 0 ∅ 0 ∗ reached EH ((K (F := F)).doneCell d) 0
    ∗ (bigSep Finset.univ fun c : Fin τ.nSC => reached EH ((K (F := F)).startCell d c) ((K (F := F)).sRank c 0))
    ∗ bigSep (SparseCore.Cfg.callsFrom 0) fun q : Fin 1 => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some (SparseCore.Cfg.Blocks.last q)) 1)))

theorem tcSt_zero (d : Dev nD) : ((K (F := F)).tcSt EH d 0 : sProp (MM F)) = iprop(oweTc d ∗ tcRest d) := by
  have h : ∀ W : Waits sig (HIx 1), (K (F := F)).WBelow (SparseCore.T d) W 0 ↔ ∀ p ∈ W, p.2 = none := fun W => by
    constructor
    · intro hW p hp
      rcases hq : p.2 with _ | q
      · rfl
      · have h1 := hW p hp; rw [hq] at h1
        exact absurd h1 (Nat.not_le.mpr ((K (F := F)).lev_some_pos _ q))
    · intro hW p hp; rw [hW p hp]; exact Nat.le_refl 0
  unfold SparseCore.Cfg.tcSt oweTc tcRest
  simp only [show 8 * SparseCore.Cfg.Blocks.fst (Q := 1) (N := 1) 0 = 0 from rfl, h]

/-! ## A region's step -/

variable {m}

set_option backward.isDefEq.respectTransparency.types false in
/-- A region of @main, at a state of the whole program: the unscoped buffers go from `V` to `Vp`. -/
theorem wp_region [∀ e, Nonempty (Elt F e)] (p : Fin 2)
    {pd : (p : Fin 2) → (c : Dev nD) → Pipeline.Dat τ (Elt F) (HIx 1) ℕ UU ℕ (Pipeline.pin (pcfgs (F := F)) adm p) c}
    (R : Pipeline.RegionSeg (pcfgs (F := F)) adm pd (none : HIx 1) defs₀ 𝒱₀ (K (F := F)).L (K (F := F)).lev p) (d : Dev nD)
    (Φ : PUnit → sProp (MM F)) :
    iprop((iprop(boundary (SparseCore.T d : Thread nD τ) ∗ R.post d) -∗ Φ ⟨⟩)
        ∗ boundary (SparseCore.T d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
      ⊢ wp frame (wpE ((K (F := F)).defs (D (F := F))) 𝒱 (SparseCore.T d) none) Set.univ
          (SparseCore.liftProg (Prog.op (.customCall (Pipeline.entry p) ()) Prog.ret)) Φ := by
  refine BI.Entails.trans ?_ ((K (F := F)).wp_liftProg (D (F := F)) 𝒱 (SparseCore.T d) Set.univ none _ _)
  refine BI.Entails.trans ?_ (Pipeline.RegionSeg.wp (pcfgs (F := F)) adm pd (none : HIx 1) cellOf_inj EP defs₀ 𝒱₀ (K (F := F)).L (K (F := F)).lev R d none
    (fun u hu => nomatch hu) Prog.ret Φ)
  show (iprop((iprop(boundary (SparseCore.T d : Thread nD τ) ∗ R.post d) -∗ Φ ⟨⟩)
        ∗ boundary (SparseCore.T d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d) : sProp (MM F))
      ⊢ iprop((iprop(boundary (SparseCore.T d : Thread nD τ) ∗ R.post d) -∗ wp frame (wpE (D (F := F)) 𝒱 (SparseCore.T d) none) Set.univ (Prog.ret ⟨⟩) Φ)
        ∗ boundary (SparseCore.T d : Thread nD τ) ∗ R.pre d ∗ levAts (K (F := F)).L (K (F := F)).lev
        ∗ Pipeline.cellsGhost (Pipeline.pin (pcfgs (F := F)) adm) EP p d ∗ Pipeline.toksInit (Pipeline.pin (pcfgs (F := F)) adm) EP p d)
  iintro ⟨Hk, H⟩
  isplitl [Hk]
  · iintro Hb
    rw [wp_ret]; imodintro
    iapply Hk; iexact Hb
  iexact H

variable (m)
variable [∀ e, Nonempty (Elt F e)]

theorem devRef_ne {a b : Ref sig .tc} (h : a ≠ b) : (Proc.devRef .tc a : DevRef τ sig) ≠ Proc.devRef .tc b :=
  fun e => h (Proc.devRef_injective _ e)

theorem W2_sim (d : Dev nD) : W2 m d (Proc.devRef .tc main_v2) = sim2 m d := by unfold W2; exact Function.update_self _ _ _
theorem W2_ne (d : Dev nD) {b : Ref sig .tc} (h : b ≠ main_v2) : W2 m d (Proc.devRef .tc b) = W1 m d (Proc.devRef .tc b) := by
  unfold W2; exact Function.update_of_ne (devRef_ne h) _ _
theorem W4_top (d : Dev nD) : W4 m d (Proc.devRef .tc main_v4_0) = (cols m d).1 := by
  unfold W4; exact (Function.update_of_ne (devRef_ne (by decide)) _ _).trans (Function.update_self _ _ _)
theorem W4_bot (d : Dev nD) : W4 m d (Proc.devRef .tc main_v4_1) = (cols m d).2.1 := by unfold W4; exact Function.update_self _ _ _
theorem W4_ne (d : Dev nD) {b : Ref sig .tc} (h : b ≠ main_v4_0) (h' : b ≠ main_v4_1) : W4 m d (Proc.devRef .tc b) = W3 m d (Proc.devRef .tc b) := by
  unfold W4; exact (Function.update_of_ne (devRef_ne h') _ _).trans (Function.update_of_ne (devRef_ne h) _ _)
theorem W6_out (d : Dev nD) : W6 m d (Proc.devRef .tc main_v16) = og (tbl m) (rows m) d := by unfold W6; exact Function.update_self _ _ _
theorem W6_ne (d : Dev nD) {b : DevRef τ sig} (h : b ≠ Proc.devRef .tc main_v16) : W6 m d b = W5 m d b := by
  unfold W6; exact Function.update_of_ne h _ _

/-- The first region at @main's contents, -/
def region0 : Pipeline.RegionSeg (pcfgs (F := F)) adm (Sim.pdats fun c b => W1 m c b) (none : HIx 1) defs₀ 𝒱₀ (K (F := F)).L (K (F := F)).lev 0 :=
  Sim.reg (fun c b => W1 m c b) (fun c b => W2 m c b)
    (fun c => (W2_sim m c).trans (Sim.out_eq (fun c b => W1 m c b) c).symm) (fun c _ hb => W2_ne m c hb)

/-- and the second. -/
def region1 : Pipeline.RegionSeg (pcfgs (F := F)) adm (Topk.pdats fun c b => W3 m c b) (none : HIx 1) defs₀ 𝒱₀ (K (F := F)).L (K (F := F)).lev 1 :=
  Topk.reg (fun c b => W3 m c b) (fun c b => W4 m c b) (fun c => W4_top m c) (fun c => W4_bot m c) (fun c _ hb hb' => W4_ne m c hb hb')

theorem region0_pre (d : Dev nD) : (region0 m).pre d = iprop(unscopedBufs d (fun b : Ref sig .tc => W1 m d b) ∗ oweTc d) := rfl
theorem region0_post (d : Dev nD) : (region0 m).post d = iprop(unscopedBufs d (fun b : Ref sig .tc => W2 m d b) ∗ oweTc d) := rfl
theorem region1_pre (d : Dev nD) : (region1 m).pre d = iprop(unscopedBufs d (fun b : Ref sig .tc => W3 m d b) ∗ oweTc d) := rfl
theorem region1_post (d : Dev nD) : (region1 m).post d = iprop(unscopedBufs d (fun b : Ref sig .tc => W4 m d b) ∗ oweTc d) := rfl

/-! ## The SparseCore call's buffers out of the others -/

/-- The call's buffers. -/
def scRefs : Finset (DevRef τ sig) := {Proc.devRef .tc main_v14, Proc.devRef .tc main_v15, Proc.devRef .tc main_v16}

theorem scRefs_sub : scRefs ⊆ Pipeline.ucRefs τ sig := by decide

theorem held_scRefs (d : Dev nD) (W : Valuation τ sig (Elt F)) :
    (held (SparseCore.T d : Thread nD τ) scRefs W : sProp (MM F))
      = iprop((iLoc d ↦{fullShare} W main_v14) ∗ (xLoc d ↦{fullShare} W main_v15) ∗ (oLoc d ↦{fullShare} W main_v16)) := by
  unfold held scRefs
  rw [SparseCore.bigSep_insert' (by decide), SparseCore.bigSep_insert' (by decide), bigSep_singleton]

theorem held_rest (d : Dev nD) :
    (held (SparseCore.T d : Thread nD τ) (Pipeline.ucRefs τ sig \ scRefs) (W6 m d) : sProp (MM F))
      = held (SparseCore.T d : Thread nD τ) (Pipeline.ucRefs τ sig \ scRefs) (W5 m d) :=
  held_congr _ fun b hb => W6_ne m d fun e => (Finset.mem_sdiff.mp hb).2 (by rw [e]; decide)

/-! ## @main on the TensorCore -/

/-- The two regions' ghost state, dealt to the device at the launch. -/
def G (d : Dev nD) : sProp (MM F) :=
  iprop((Pipeline.cellsGhost (Pipeline.pin (pcfgs (F := F)) adm) EP 0 d ∗ Pipeline.toksInit (Pipeline.pin (pcfgs (F := F)) adm) EP 0 d)
    ∗ (Pipeline.cellsGhost (Pipeline.pin (pcfgs (F := F)) adm) EP 1 d ∗ Pipeline.toksInit (Pipeline.pin (pcfgs (F := F)) adm) EP 1 d))

/-- What the device ends with: every unscoped buffer at the run's contents. -/
abbrev FIN (d : Dev nD) : sProp (MM F) := held (SparseCore.T d : Thread nD τ) (Pipeline.ucRefs τ sig) (W7 m d)

set_option backward.isDefEq.respectTransparency.types false in
/-- A stretch of host operations of @main. -/
theorem wp_host (d : Dev nD) (ops : List (HloOp τ sig (Elt F))) (hs : ∀ op ∈ ops, op.bufs ⊆ Pipeline.ucRefs τ sig) (hf : ∀ op ∈ ops, op.fresh = ∅)
    (W : Valuation τ sig (Elt F)) (k : PUnit → Prog (TpuEff nD τ sig (Elt F) (SparseCore.Sig (ΛP (F := F)) 1) .tc) PUnit) (Φ : PUnit → sProp (MM F)) :
    iprop(boundary (SparseCore.T d : Thread nD τ) ∗ held (SparseCore.T d : Thread nD τ) (Pipeline.ucRefs τ sig) W
        ∗ (iprop(boundary (SparseCore.T d : Thread nD τ) ∗ held (SparseCore.T d : Thread nD τ) (Pipeline.ucRefs τ sig) (after ops W))
            -∗ wp frame (wpE ((K (F := F)).defs (D (F := F))) 𝒱 (SparseCore.T d) none) Set.univ (k ⟨⟩) Φ))
      ⊢ wp frame (wpE ((K (F := F)).defs (D (F := F))) 𝒱 (SparseCore.T d) none) Set.univ (seq ops >>= k) Φ := by
  have h := StableHlo.wp_seq (Ix := HIx 1) (Name := ℕ) (U := UU) (Lvl := ℕ) (defs := (K (F := F)).defs (D (F := F))) 𝒱 none Set.univ d
    (Pipeline.ucRefs τ sig) k (K := Φ) ops hs hf W
  iintro ⟨Hb, Hh, Hk⟩
  iapply h $$ [Hb Hh]
  · isplitl [Hb]; · iexact Hb
    iexact Hh
  iexact Hk

theorem held_W0 (d : Dev nD) : (unscopedBufs d (fun b => m ((SparseCore.T d : Thread nD τ).loc b)) : sProp (MM F))
    = held (SparseCore.T d : Thread nD τ) (Pipeline.ucRefs τ sig) (W0 m d) :=
  Pipeline.unscopedBufs_held (Ix := HIx 1) (Name := ℕ) (U := UU) (Lvl := ℕ) d (W0 m d)
theorem held_W (d : Dev nD) (W : Valuation τ sig (Elt F)) : (unscopedBufs d (fun b : Ref sig .tc => W b) : sProp (MM F))
    = held (SparseCore.T d : Thread nD τ) (Pipeline.ucRefs τ sig) W :=
  Pipeline.unscopedBufs_held (Ix := HIx 1) (Name := ℕ) (U := UU) (Lvl := ℕ) d W

theorem held_call (d : Dev nD) : (held (SparseCore.T d : Thread nD τ) (Pipeline.ucRefs τ sig) (after opsRows (W4 m d)) : sProp (MM F))
    = iprop(((iLoc d ↦{fullShare} rows m d) ∗ (xLoc d ↦{fullShare} tbl m d) ∗ (oLoc d ↦{fullShare} out0 m d))
        ∗ held (SparseCore.T d : Thread nD τ) (Pipeline.ucRefs τ sig \ scRefs) (W5 m d)) := by
  rw [show after opsRows (W4 m d) = W5 m d from rfl, held_sub_split _ scRefs_sub (W5 m d), held_scRefs]

set_option maxHeartbeats 1000000 in
theorem hmain (κ : GSem nD τ sig → ℕ) (d : Dev nD) :
    iprop((K (F := F)).ctx EH (P (tbl m) (rows m) (out0 m)) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd G
  rw [main_eq, held_W0, tcSt_zero]
  iintro ⟨#Hctx, ⟨HO, Hst⟩, ⟨Hb, Hh, Hts, -⟩, ⟨Hg0, Ht0⟩, ⟨Hg1, Ht1⟩⟩
  ihave #Hlev := (SparseCore.Cfg.ctx_levAts κ) $$ Hctx
  iapply (wp_host d opsNorm opsNorm_sub opsNorm_fresh (W0 m d))
  isplitl [Hb]; · iexact Hb
  isplitl [Hh]; · iexact Hh
  iintro ⟨Hb, Hh⟩
  rw [wp_bind]
  iapply (wp_region 0 (region0 m) d)
  isplitr [Hb Hh HO Hg0 Ht0]; swap
  · isplitl [Hb]; · iexact Hb
    isplitl [Hh HO]
    · rw [region0_pre, held_W]
      isplitl [Hh]; · iexact Hh
      iexact HO
    isplitr; · iexact Hlev
    isplitl [Hg0]; · iexact Hg0
    iexact Ht0
  rw [region0_post, held_W]
  iintro ⟨Hb, Hh, HO⟩
  iapply (wp_host d opsFlat opsFlat_sub opsFlat_fresh (W2 m d))
  isplitl [Hb]; · iexact Hb
  isplitl [Hh]; · iexact Hh
  iintro ⟨Hb, Hh⟩
  rw [wp_bind]
  iapply (wp_region 1 (region1 m) d)
  isplitr [Hb Hh HO Hg1 Ht1]; swap
  · isplitl [Hb]; · iexact Hb
    isplitl [Hh HO]
    · rw [region1_pre, held_W]
      isplitl [Hh]; · iexact Hh
      iexact HO
    isplitr; · iexact Hlev
    isplitl [Hg1]; · iexact Hg1
    iexact Ht1
  rw [region1_post, held_W]
  iintro ⟨Hb, Hh, HO⟩
  iapply (wp_host d opsRows opsRows_sub opsRows_fresh (W4 m d))
  isplitl [Hb]; · iexact Hb
  isplitl [Hh]; · iexact Hh
  iintro ⟨Hb, Hh⟩
  rw [wp_bind]
  ihave Hh' := (Entails.of_eq (held_call m d)) $$ Hh
  icases Hh' with ⟨⟨Hi, Hx, Ho⟩, Hrest⟩
  iapply ((K (F := F)).wp_run (D (F := F)) 𝒱 (EH := EH) (P := P (tbl m) (rows m) (out0 m)) κ d 0)
  isplitr; · iexact Hctx
  isplitl [HO Hst]
  · rw [show ((0 : Fin 1) : ℕ) = 0 from rfl, tcSt_zero]
    isplitl [HO]; · iexact HO
    iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq (tbl m) (rows m) (out0 m) d)) $$ Hdn
  icases Hdn' with ⟨Hi, Hx, Ho⟩
  iapply (wp_host d opsSplit opsSplit_sub opsSplit_fresh (W6 m d))
  isplitl [Hb]; · iexact Hb
  isplitl [Hi Hx Ho Hrest]
  · rw [held_sub_split _ scRefs_sub (W6 m d), held_scRefs, held_rest]
    isplitl [Hi Hx Ho]
    · rw [W6_ne m d (devRef_ne (show main_v14 ≠ main_v16 by decide)),
        W6_ne m d (devRef_ne (show main_v15 ≠ main_v16 by decide)),
        W6_out m d]
      isplitl [Hi]; · iexact Hi
      isplitl [Hx]; · iexact Hx
      iexact Ho
    iexact Hrest
  iintro ⟨Hb, Hh⟩
  rw [show (pure ⟨⟩ : Prog (TpuEff nD τ sig (Elt F) (SparseCore.Sig (ΛP (F := F)) 1) .tc) PUnit) = .ret ⟨⟩ from rfl, wp_ret]
  imodintro
  isplitl [Hst]; · iexact Hst
  isplitl [Hh]; · iexact Hh
  isplitl [Hb] <;> iassumption

/-! ## The launch -/

def u₀ : UU := (initOf (K (F := F)).hsCells (K (F := F)).hsToks,
  (initOf (Pipeline.cells (nD := nD) (τ := τ) (Pipeline.pin (pcfgs (F := F)) adm) cellOf_inj) (Pipeline.launchToks (nD := nD) (τ := τ) (Pipeline.pin (pcfgs (F := F)) adm) cellOf_inj), 1))

theorem bigSep_none {I : Type} (s : Finset I) : (bigSep s fun _ => iprop(emp)) = (iprop(emp) : sProp (MM F)) := bigSep_emp_const s

theorem bigSep_regions (Φ : Fin 2 → sProp (MM F)) : bigSep Finset.univ Φ = iprop(Φ 0 ∗ Φ 1) :=
  bigSep_univ_eq_bigSepL [(0 : Fin 2), (1 : Fin 2)] (by decide) (by decide) Φ

theorem hu₀ (tb : (d : Dev nD) → Buf (Elt F) (xLoc d)) (ix : (d : Dev nD) → Buf (Elt F) (iLoc d)) (o0 : (d : Dev nD) → Buf (Elt F) (oLoc d)) :
    (ownU (u₀ (F := F)) : sProp (MM F))
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P tb ix o0).x q thr) := by
  unfold u₀
  iintro Hu
  ihave H := (ownU_pair _ _) $$ Hu
  icases H with ⟨HH, HR⟩
  ihave H := (own_pair_emb embR _ _) $$ HR
  icases H with ⟨HP, -⟩
  rw [show ((Emb.inl : Emb UP (UP × Counters)).trans embR : Emb UP (MM F)) = EP from rfl]
  imod (Pipeline.fund_ghost (Pipeline.pin (pcfgs (F := F)) adm) EP cellOf_inj) $$ HP with ⟨Hg, Ht⟩
  imodintro
  isplitl [HH]; · iexact HH
  isplitl [Hg Ht]
  · unfold G
    simp only [bigSep_regions, bigSep_sep']
    icases Hg with ⟨Hg0, Hg1⟩
    icases Ht with ⟨Ht0, Ht1⟩
    isplitl [Hg0 Ht0]
    · isplitl [Hg0]; · iexact Hg0
      iexact Ht0
    isplitl [Hg1]; · iexact Hg1
    iexact Ht1
  rw [show (bigSep Finset.univ fun thr : Thread nD τ => bigSep Finset.univ fun q : Fin 1 => (P tb ix o0).x q thr) = bigSep Finset.univ fun _ => iprop(emp) from
    bigSep_congr fun _ _ => bigSep_univ_of_subsingleton (0 : Fin 1), bigSep_none]
  iempintro

def fq (d : Dev nD) (s' : Phys nD τ sig (Elt F)) : Prop := ∀ b ∈ Pipeline.ucRefs τ sig, s'.mem.mem (d, b) = W7 m d b

theorem hfin (d : Dev nD) (s' : Phys nD τ sig (Elt F)) : iprop(FIN m d ∗ SI s') ⊢ (⌜fq m d s'⌝ : sProp (MM F)) := by
  iintro ⟨H, HSI⟩
  unfold FIN held
  ihave %h := (SI_pointsTo_bufs_agree (st := s') (c := d) (qs := fun _ => fullShare) (F := W7 m d) (Pipeline.ucRefs τ sig)) $$ [HSI H]
  · isplitl [HSI]; · iexact HSI
    iexact H
  ipureintro; exact h

/-- The run of the program from any memory whose computed row numbers are in range: every unscoped buffer ends at the
    contents the stretches leave, every semaphore at zero. -/
theorem run_main (hrows : InRange (rows m)) :
    θ_run (Cert.KernelIdeal.defs (F := F)) (Cert.KernelIdeal.threads (F := F)) ⟨m, fun _ => 0, ρ⟩
      (fun r => (∀ d : Dev nD, ∀ b ∈ Pipeline.ucRefs τ sig, r.2.mem (d, b) = W7 m d b) ∧ r.2.sem = fun _ => 0) :=
  SparseCore.Cfg.θ_run_sc_quiescent (K := K (F := F)) (D := D (F := F)) (𝒱 := 𝒱) (EH := EH) (P := P (tbl m) (rows m) (out0 m)) (A := ∅) facts v₀
    (fun q hq => match q with | 0 => nomatch hq)
    (fun q _ => match q with | 0 => tileObl (tbl m) (rows m) (out0 m) facts hrows)
    (fun q _ => match q with | 0 => SparseCore.Cfg.VecSplit.of_plain (vecSplit (tbl m) (rows m) (out0 m)))
    m ρ main G (FIN m) (u₀ (F := F)) (sep_elim_left.trans (hu₀ (tbl m) (rows m) (out0 m))) (hmain m ρ) (fq m) (hfin m) _ (fun _ h hz => ⟨h, hz⟩)

end Cert.Proof.Run

end
-- ==== Proof.Values.lean ====
/-
  The run's contents read back: what the results hold, of the arguments.
-/
module

public import proofs.«01_k».proof.Proof.RunMain

@[expose] public section

set_option maxRecDepth 16384

noncomputable section

namespace Cert.Proof.Run

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

open Idealize.ShloMosaic.StableHlo

variable (m : (ℓ : Loc nD τ sig) → Buf (Elt F) ℓ)

/-- The features and the prototypes. -/
abbrev feat (d : Dev nD) : S64x8192x128.Idx → Elt F .f32 := m ((SparseCore.T d : Thread nD τ).loc main_arg0)
abbrev proto (d : Dev nD) : S64x1x128.Idx → Elt F .f32 := m ((SparseCore.T d : Thread nD τ).loc main_arg1)

/-- The norms of the rows of `x`. -/
def norms (x : S64x8192x128.Idx → Elt F .f32) : FVec F S64x8192 .f32 :=
  Host.sqrt (Host.reduceAdd (mulf x x) (constant S_ .f32 0x00000000#32) reducesTo_S64x8192x128_S64x8192_d2 h_S_)

/-- The row numbers: each batch's columns moved by the batch's first row, the top ones, then the bottom ones. -/
def rowsOf (ti bi : IVec S64x64 32) : IVec S8192 32 :=
  let base : IVec S64x64 32 := broadcastInDim S64x64 ![0, 1] bcast_S64x1_S64x64_0_1 (broadcastInDim S64x1 ![0] bcast_S64_S64x1_0
    (muli (iotaInDim S64 32 0) (broadcastInDim S64 ![] bcast_S_S64 (constantI S_ 32 8192#32))))
  shapeCast S8192 (concatenate S128x64 0 [⟨S64x64, addi ti base⟩, ⟨S64x64, addi bi base⟩] concatenates_S64x64_S64x64_S128x64_d0) shapeCasts_S128x64_S8192

theorem W1_arg0 (d : Dev nD) : W1 m d main_arg0 = feat m d := by
  unfold W1; simp only [opsNorm, TRef.binary, TRef.nullary, TRef.unary, TRef.toBuf, TRef.ofBuf, cast_eq]; after_results; rfl
theorem W1_arg1 (d : Dev nD) : W1 m d main_arg1 = proto m d := by
  unfold W1; simp only [opsNorm, TRef.binary, TRef.nullary, TRef.unary, TRef.toBuf, TRef.ofBuf, cast_eq]; after_results; rfl
theorem W1_norm (d : Dev nD) : W1 m d main_v1 = broadcastInDim S64x1x8192 ![0, 2] bcast_S64x8192_S64x1x8192_0_2 (norms (feat m d)) := by
  unfold W1; simp only [opsNorm, TRef.binary, TRef.nullary, TRef.unary, TRef.toBuf, TRef.ofBuf, cast_eq]; after_results; rfl
theorem sim2_eq (d : Dev nD) : sim2 m d
    = Sim.sims (feat m d) (proto m d) (broadcastInDim S64x1x8192 ![0, 2] bcast_S64x8192_S64x1x8192_0_2 (norms (feat m d))) := by
  unfold sim2; rw [W1_arg0, W1_arg1, W1_norm]
theorem W2_arg0 (d : Dev nD) : W2 m d main_arg0 = feat m d := (W2_ne m d (by decide)).trans (W1_arg0 m d)
theorem W2_arg1 (d : Dev nD) : W2 m d main_arg1 = proto m d := (W2_ne m d (by decide)).trans (W1_arg1 m d)
theorem W3_arg0 (d : Dev nD) : W3 m d main_arg0 = feat m d := by unfold W3; after_results; exact W2_arg0 m d
theorem W3_arg1 (d : Dev nD) : W3 m d main_arg1 = proto m d := by unfold W3; after_results; exact W2_arg1 m d
theorem W3_sim (d : Dev nD) : W3 m d main_v3 = shapeCast S64x8192 (sim2 m d) shapeCasts_S64x1x8192_S64x8192 := by
  unfold W3; after_results; rw [W2_sim]; rfl
theorem cols_eq (d : Dev nD) : cols m d = (Topk.final (shapeCast S64x8192 (sim2 m d) shapeCasts_S64x1x8192_S64x8192)).1 := by
  unfold cols; rw [W3_sim]
theorem W4_arg0 (d : Dev nD) : W4 m d main_arg0 = feat m d := (W4_ne m d (by decide) (by decide)).trans (W3_arg0 m d)
theorem W4_arg1 (d : Dev nD) : W4 m d main_arg1 = proto m d := (W4_ne m d (by decide) (by decide)).trans (W3_arg1 m d)
theorem W5_arg0 (d : Dev nD) : W5 m d main_arg0 = feat m d := by unfold W5; after_results; exact W4_arg0 m d
theorem W5_arg1 (d : Dev nD) : W5 m d main_arg1 = proto m d := by unfold W5; after_results; exact W4_arg1 m d
theorem W5_top (d : Dev nD) : W5 m d main_v4_0 = (cols m d).1 := by unfold W5; after_results; exact W4_top m d
theorem W5_bot (d : Dev nD) : W5 m d main_v4_1 = (cols m d).2.1 := by unfold W5; after_results; exact W4_bot m d
theorem tbl_eq (d : Dev nD) : tbl m d = shapeCast S524288x128 (feat m d) shapeCasts_S64x8192x128_S524288x128 := by
  unfold tbl W5; after_results; rw [W4_arg0]; rfl
theorem rows_eq (d : Dev nD) : rows m d = rowsOf (cols m d).1 (cols m d).2.1 := by
  unfold rows W5; after_results; rw [W4_top, W4_bot]; rfl
theorem W6_keeps (d : Dev nD) {b : Ref sig .tc} (h : b ≠ main_v16) : W6 m d (Proc.devRef .tc b) = W5 m d (Proc.devRef .tc b) := W6_ne m d (devRef_ne h)
theorem W7_arg0 (d : Dev nD) : W7 m d main_arg0 = feat m d := by
  unfold W7; after_results; exact (W6_keeps m d (by decide)).trans (W5_arg0 m d)
theorem W7_arg1 (d : Dev nD) : W7 m d main_arg1 = proto m d := by
  unfold W7; after_results; exact (W6_keeps m d (by decide)).trans (W5_arg1 m d)
theorem W7_top (d : Dev nD) : W7 m d main_v4_0 = (cols m d).1 := by
  unfold W7; after_results; exact (W6_keeps m d (by decide)).trans (W5_top m d)
theorem W7_bot (d : Dev nD) : W7 m d main_v4_1 = (cols m d).2.1 := by
  unfold W7; after_results; exact (W6_keeps m d (by decide)).trans (W5_bot m d)

/-- The two halves of the gathered rows. -/
def half0 (o : S8192x128.Idx → Elt F .f32) : FVec F S64x64x128 .f32 :=
  shapeCast S64x64x128 (extractStridedSlice S1x64x64x128 ![0, 0, 0, 0] (shapeCast S2x64x64x128 o shapeCasts_S8192x128_S2x64x64x128) slices_S2x64x64x128_S1x64x64x128_0_0_0_0)
    shapeCasts_S1x64x64x128_S64x64x128
def half1 (o : S8192x128.Idx → Elt F .f32) : FVec F S64x64x128 .f32 :=
  shapeCast S64x64x128 (extractStridedSlice S1x64x64x128 ![1, 0, 0, 0] (shapeCast S2x64x64x128 o shapeCasts_S8192x128_S2x64x64x128) slices_S2x64x64x128_S1x64x64x128_1_0_0_0)
    shapeCasts_S1x64x64x128_S64x64x128

theorem W7_rows0 (d : Dev nD) : W7 m d main_v19 = half0 (gath (tbl m d) (rows m d)) := by
  unfold W7; after_results; rw [W6_out]; rfl
theorem W7_rows1 (d : Dev nD) : W7 m d main_v21 = half1 (gath (tbl m d) (rows m d)) := by
  unfold W7; after_results; rw [W6_out]; rfl

end Cert.Proof.Run

end
-- ==== Proof.IdealSim.lean ====
/-
  At the ideal values: the kernel's similarities are the reference's, and each is a real number.
-/
module

public import proofs.«01_k».proof.Proof.Values
public import proofs.«01_k».proof.Proof.Gen.ReferenceIdeal.Run
public import Idealize.ShloMosaic.Lib.Pointwise

@[expose] public section

set_option maxRecDepth 16384

noncomputable section

namespace Cert.Proof.Run.IdealSim

open Idealize.ShloMosaic Idealize.ShloMosaic.TcCoe

section Reference
open Cert.ReferenceIdeal Cert.ReferenceIdeal.Gen

/-- The reference's similarities, as its program writes them. -/
def refSim (A0 : FVec Ideal S64x8192x128 .f32) (A1 : FVec Ideal S64x1x128 .f32) : FVec Ideal S64x8192 .f32 :=
  Host.divf (Host.reduceAdd (Host.dotGeneral dot_S64x8192x128_S64x1x128_S64x8192x1_2_2_1_1_0_0 none (Host.divf A0 (broadcastInDim S64x8192x128 ![0,1,2] bcast_S64x8192x1_S64x8192x128_0_1_2 (addf (Host.sqrt (broadcastInDim S64x8192x1 ![0,1] bcast_S64x8192_S64x8192x1_0_1 (Host.reduceAdd (mulf A0 A0) (constant S_ .f32 0x00000000#32) reducesTo_S64x8192x128_S64x8192_d2 h_S_))) (broadcastInDim S64x8192x1 ![] bcast_S_S64x8192x1 (constant S_ .f32 0x322BCC77#32))))) (Host.divf A1 (broadcastInDim S64x1x128 ![0,1,2] bcast_S64x1x1_S64x1x128_0_1_2 (addf (Host.sqrt (broadcastInDim S64x1x1 ![0,1] bcast_S64x1_S64x1x1_0_1 (Host.reduceAdd (mulf A1 A1) (constant S_ .f32 0x00000000#32) reducesTo_S64x1x128_S64x1_d2 h_S_))) (broadcastInDim S64x1x1 ![] bcast_S_S64x1x1 (constant S_ .f32 0x322BCC77#32)))))) (constant S_ .f32 0x00000000#32) reducesTo_S64x8192x1_S64x8192_d2 h_S_) (broadcastInDim S64x8192 ![] bcast_S_S64x8192 (constant S_ .f32 0x3F800000#32))

/-- One similarity: the sum of the products of the two normalised rows. -/
def simAt (x : Fin 128 → EReal) (y : Fin 128 → EReal) : EReal :=
  ∑ k : Fin 128, Ideal.div (x k) (Ideal.sqrt (∑ j : Fin 128, x j * x j) + Ideal.ofBits .f32 0x322BCC77#32)
    * Ideal.div (y k) (Ideal.sqrt (∑ j : Fin 128, y j * y j) + Ideal.ofBits .f32 0x322BCC77#32)

theorem refSim_apply (A0 : FVec Ideal S64x8192x128 .f32) (A1 : FVec Ideal S64x1x128 .f32) (b : Fin 64) (n : Fin 8192) :
    refSim A0 A1 (ix2 b n) = simAt (fun k => A0 (ix3 b n k)) (fun k => A1 (ix3 b (0 : Fin 1) k)) := by
  pointwise [refSim, simAt]
  rw [show (1 : EReal) = ((1 : ℝ) : EReal) from rfl, Ideal.div_coe one_ne_zero, one_div, inv_one, EReal.coe_one, mul_one, Fin.sum_univ_one]

end Reference

open Cert.KernelIdeal Cert.KernelIdeal.Gen

theorem scalar_sqrt (x : EReal) : Scalar.sqrt (F := Ideal) (φ := .f32) x = Ideal.sqrt x := rfl

theorem kerSim_apply (A0 : FVec Ideal S64x8192x128 .f32) (A1 : FVec Ideal S64x1x128 .f32) (b : Fin 64) (n : Fin 8192) :
    (shapeCast S64x8192 (Sim.sims (F := Ideal) A0 A1 (broadcastInDim S64x1x8192 ![0,2] bcast_S64x8192_S64x1x8192_0_2 (norms (F := Ideal) A0))) shapeCasts_S64x1x8192_S64x8192 : FVec Ideal S64x8192 .f32) (ix2 b n)
      = simAt (fun k => A0 (ix3 b n k)) (fun k => A1 (ix3 b (0 : Fin 1) k)) := by
  pointwise [Sim.sims, k0_pay1, norms, simAt]
  simp only [Fin.sum_univ_one, scalar_sqrt]

/-- A real number. -/
abbrev IsReal (x : EReal) : Prop := ∃ r : ℝ, x = (r : EReal)

theorem isReal_of_ne {x : EReal} (h₁ : x ≠ ⊤) (h₂ : x ≠ ⊥) : IsReal x := ⟨x.toReal, (EReal.coe_toReal h₁ h₂).symm⟩

theorem sq_nonneg (x : EReal) : 0 ≤ x * x := by
  induction x with
  | bot => rw [EReal.bot_mul_bot]; exact le_top
  | top => rw [EReal.top_mul_top]; exact le_top
  | coe r => rw [← EReal.coe_mul]; exact_mod_cast mul_self_nonneg r

theorem eps_pos : ∃ e : ℝ, Ideal.ofBits .f32 0x322BCC77#32 = (e : EReal) ∧ 0 < e := by
  refine ⟨_, rfl, ?_⟩
  norm_num
  rw [if_neg (by decide)]
  positivity

/-- A component over a row's norm and the small constant is a real number, whatever the row. -/
theorem quot_real (x : Fin 128 → EReal) (k : Fin 128) :
    IsReal (Ideal.div (x k) (Ideal.sqrt (∑ j : Fin 128, x j * x j) + Ideal.ofBits .f32 0x322BCC77#32)) := by
  obtain ⟨e, he, hp⟩ := eps_pos
  rw [he]
  have h0 : 0 ≤ ∑ j : Fin 128, x j * x j := Finset.sum_nonneg fun j _ => sq_nonneg (x j)
  have hk : x k * x k ≤ ∑ j : Fin 128, x j * x j := Finset.single_le_sum (f := fun j => x j * x j) (fun j _ => sq_nonneg (x j)) (Finset.mem_univ k)
  generalize (∑ j : Fin 128, x j * x j) = S at h0 hk ⊢
  induction S with
  | bot => exact absurd h0 (by simp)
  | top =>
    refine ⟨0, ?_⟩
    rw [show Ideal.sqrt ⊤ = ⊤ from rfl, EReal.top_add_coe]
    unfold Ideal.div
    rw [if_neg EReal.top_ne_zero, EReal.inv_top, mul_zero, EReal.coe_zero]
  | coe s =>
    have hs : 0 ≤ s := by exact_mod_cast h0
    have hx : IsReal (x k) := by
      refine isReal_of_ne ?_ ?_ <;> intro h <;> rw [h] at hk
      · rw [EReal.top_mul_top] at hk; exact absurd hk (by simp)
      · rw [EReal.bot_mul_bot] at hk; exact absurd hk (by simp)
    obtain ⟨r, hr⟩ := hx
    have hq : Ideal.sqrt (s : EReal) = ((Real.sqrt s : ℝ) : EReal) := by
      show (if s < 0 then (⊥ : EReal) else _) = _
      rw [if_neg (not_lt.mpr hs)]
    have hne : Real.sqrt s + e ≠ 0 := (add_pos_of_nonneg_of_pos (Real.sqrt_nonneg s) hp).ne'
    rw [hq, hr, ← EReal.coe_add, Ideal.div_coe hne, ← EReal.coe_mul]
    exact ⟨_, rfl⟩

theorem sum_real {n : ℕ} (f : Fin n → EReal) (h : ∀ k, IsReal (f k)) : IsReal (∑ k, f k) := by
  choose g hg using h
  exact ⟨∑ k, g k, by
    rw [Finset.sum_congr rfl fun k _ => hg k]
    exact (map_sum (⟨⟨fun r : ℝ => (r : EReal), rfl⟩, fun _ _ => rfl⟩ : ℝ →+ EReal) g Finset.univ).symm⟩

theorem simAt_real (x y : Fin 128 → EReal) : IsReal (simAt x y) := by
  refine sum_real _ fun k => ?_
  obtain ⟨a, ha⟩ := quot_real x k
  obtain ⟨b, hb⟩ := quot_real y k
  rw [ha, hb, ← EReal.coe_mul]
  exact ⟨_, rfl⟩

theorem kerSim_eq (A0 : FVec Ideal S64x8192x128 .f32) (A1 : FVec Ideal S64x1x128 .f32) :
    (shapeCast S64x8192 (Sim.sims (F := Ideal) A0 A1 (broadcastInDim S64x1x8192 ![0,2] bcast_S64x8192_S64x1x8192_0_2 (norms (F := Ideal) A0))) shapeCasts_S64x1x8192_S64x8192 : FVec Ideal S64x8192 .f32)
      = refSim A0 A1 := by
  funext i
  have h := (kerSim_apply A0 A1 (i 0) (i 1)).trans (refSim_apply A0 A1 (i 0) (i 1)).symm
  have e : ix2 (i 0) (i 1) = i := ix2_eta i
  exact e ▸ h

theorem refSim_real (A0 : FVec Ideal S64x8192x128 .f32) (A1 : FVec Ideal S64x1x128 .f32) (b : Fin 64) (n : Fin 8192) : IsReal (refSim A0 A1 (ix2 b n)) := by
  rw [refSim_apply]
  exact simAt_real _ _

end Cert.Proof.Run.IdealSim

end
-- ==== Proof.Picks.lean ====
/-
  Picking the greatest entries of a row one by one: the order alone, no program.
-/
module

public import Idealize.ShloMosaic.Lib.SortFacts
public import Idealize.ShloMosaic.Lib.SortNet.Extract
public import Idealize.ShloMosaic.PureOps.Ideal

@[expose] public section

noncomputable section

namespace Cert.Proof.Run.Picks

open Idealize.ShloMosaic

section Stable
variable {α : Type} [LinearOrder α] {ι : Type} [LinearOrder ι] (key : ι → α) (before : ι → ι → Bool)
  (hb : ∀ a b, before a b = true ↔ key b < key a)
include hb

/-- Greater first, equal ones in their own order. -/
abbrev Lex (a b : ι) : Prop := key b < key a ∨ key b = key a ∧ a < b

theorem insert_lex (a : ι) (l : List ι) (hl : l.Pairwise (Lex key)) (ha : ∀ b ∈ l, a < b) : (insertBefore before a l).Pairwise (Lex key) := by
  induction l with
  | nil => exact List.pairwise_singleton _ _
  | cons b l ih =>
    obtain ⟨h₁, h₂⟩ := List.pairwise_cons.mp hl
    unfold insertBefore
    split
    · next h =>
      refine List.pairwise_cons.mpr ⟨fun c hc => ?_, ih h₂ fun c hc => ha c (List.mem_cons_of_mem _ hc)⟩
      rcases List.mem_cons.mp ((perm_insertBefore before a l).mem_iff.mp hc) with rfl | hc
      · exact Or.inl ((hb _ _).mp h)
      · exact h₁ c hc
    · next h =>
      refine List.pairwise_cons.mpr ⟨fun c hc => ?_, hl⟩
      have hab : key b ≤ key a := not_lt.mp fun hlt => h ((hb _ _).mpr hlt)
      have hcb : key c ≤ key b := by
        rcases List.mem_cons.mp hc with rfl | hc
        · exact le_refl _
        · rcases h₁ c hc with hlt | ⟨heq, -⟩
          · exact hlt.le
          · exact heq.le
      rcases (hcb.trans hab).lt_or_eq with hlt | heq
      · exact Or.inl hlt
      · exact Or.inr ⟨heq, ha c hc⟩

theorem stable_lex (l : List ι) (hl : l.Pairwise (· < ·)) : (stableSort before l).Pairwise (Lex key) := by
  induction l with
  | nil => exact List.Pairwise.nil
  | cons a l ih =>
    obtain ⟨h₁, h₂⟩ := List.pairwise_cons.mp hl
    unfold stableSort
    exact insert_lex key before hb a _ (ih h₂) fun b hb' => h₁ b ((perm_stableSort before l).mem_iff.mp hb')

end Stable

/-- The stable sort puts the greater first and equal ones in their own order. -/
theorem sorted_lex {α : Type} [LinearOrder α] {n : ℕ} (key : Fin n → α) (before : Fin n → Fin n → Bool)
    (hb : ∀ a b, before a b = true ↔ key b < key a) (i j : Fin n) (hij : i < j) : Lex key (sortedFrom before i) (sortedFrom before j) := by
  have hp : ∀ a b : Fin (sortPositions n before).length, a < b → Lex key ((sortPositions n before).get a) ((sortPositions n before).get b) :=
    List.pairwise_iff_get.mp (stable_lex key before hb (List.finRange n) (List.pairwise_lt_finRange n))
  unfold sortedFrom
  exact hp _ _ (by simp only [Fin.lt_def, Fin.val_cast]; exact hij)

/-- With the first `k` of the order marked below everything, the greatest of the row is at the `k`-th of the order, and that is
    the first place where it stands. -/
theorem pick {α : Type} [LinearOrder α] {n : ℕ} (key : Fin n → α) (σ : Fin n → Fin n) (hσ : Function.Surjective σ)
    (hlex : ∀ i j, i < j → Lex key (σ i) (σ j)) (mark : α) (hm : ∀ j, mark < key j) (k : Fin n) (s : Fin n → α)
    (hs : ∀ i, s (σ i) = if i.val < k.val then mark else key (σ i)) (mx : α) (hmx : IsGreatest (Set.range s) mx) :
    s (σ k) = mx ∧ ∀ j, s j = mx → σ k ≤ j := by
  have hk : s (σ k) = key (σ k) := by rw [hs, if_neg (lt_irrefl _)]
  have hge : key (σ k) ≤ mx := hk ▸ hmx.2 ⟨σ k, rfl⟩
  have key_le : ∀ i, ¬ i.val < k.val → key (σ i) ≤ key (σ k) := fun i hi => by
    rcases (not_lt.mp hi).lt_or_eq with h | h
    · rcases hlex k i h with h | ⟨h, -⟩
      · exact h.le
      · exact h.le
    · rw [Fin.ext h]
  have at_mx : ∀ i, s (σ i) = mx → ¬ i.val < k.val ∧ key (σ i) = mx := fun i hi => by
    rw [hs] at hi
    split at hi
    · exact absurd (hi ▸ hge) (not_le.mpr (hm _))
    · next h => exact ⟨h, hi⟩
  obtain ⟨j₀, hj₀⟩ := hmx.1
  obtain ⟨i₀, rfl⟩ := hσ j₀
  obtain ⟨h₁, h₂⟩ := at_mx i₀ hj₀
  have hmk : key (σ k) = mx := le_antisymm hge (h₂ ▸ key_le i₀ h₁)
  refine ⟨hk.trans hmk, fun j hj => ?_⟩
  obtain ⟨i, rfl⟩ := hσ j
  obtain ⟨h₁, h₂⟩ := at_mx i hj
  rcases (not_lt.mp h₁).lt_or_eq with h | h
  · rcases hlex k i h with h' | ⟨-, h'⟩
    · exact absurd (h₂.trans hmk.symm) h'.ne
    · exact h'.le
  · rw [Fin.ext h]

/-- The greatest of a row, as a fold. -/
theorem fold_max_greatest {n : ℕ} (f : Fin (n + 1) → EReal) : IsGreatest (Set.range f) (Finset.univ.fold max ⊥ f) := by
  constructor
  · rcases Finset.le_fold_max (s := Finset.univ) (f := f) (b := ⊥) (Finset.univ.fold max ⊥ f) |>.mp (le_refl _) with h | ⟨k, -, h⟩
    · exact ⟨0, le_antisymm (Finset.le_fold_max _ |>.mpr (Or.inr ⟨0, Finset.mem_univ _, le_refl _⟩)) (h.trans bot_le)⟩
    · exact ⟨k, le_antisymm (Finset.le_fold_max _ |>.mpr (Or.inr ⟨k, Finset.mem_univ _, le_refl _⟩)) h⟩
  · rintro _ ⟨k, rfl⟩
    exact Finset.le_fold_max _ |>.mpr (Or.inr ⟨k, Finset.mem_univ _, le_refl _⟩)

/-- The least of a row, as a fold. -/
theorem fold_min_least {n : ℕ} (f : Fin (n + 1) → EReal) : IsLeast (Set.range f) (Finset.univ.fold min ⊤ f) := by
  constructor
  · rcases Finset.fold_min_le (s := Finset.univ) (f := f) (b := ⊤) (Finset.univ.fold min ⊤ f) |>.mp (le_refl _) with h | ⟨k, -, h⟩
    · exact ⟨0, le_antisymm (le_top.trans h) (Finset.fold_min_le _ |>.mpr (Or.inr ⟨0, Finset.mem_univ _, le_refl _⟩))⟩
    · exact ⟨k, le_antisymm h (Finset.fold_min_le _ |>.mpr (Or.inr ⟨k, Finset.mem_univ _, le_refl _⟩))⟩
  · rintro _ ⟨k, rfl⟩
    exact Finset.fold_min_le _ |>.mpr (Or.inr ⟨k, Finset.mem_univ _, le_refl _⟩)

theorem toInt_fold_minsi {n : ℕ} (b : BitVec 32) (f : Fin n → BitVec 32) :
    (Finset.univ.fold IntOp.minsi b f).toInt = Finset.univ.fold min b.toInt (fun k => (f k).toInt) :=
  (Finset.fold_hom (op := IntOp.minsi) (op' := min) (m := BitVec.toInt) fun x y => (SortNet.toInt_minsi x y)).symm

/-- The least column number where a property holds. -/
theorem fold_first (P : Fin 8192 → Prop) [DecidablePred P] (j : Fin 8192) (hj : P j) (hle : ∀ i, P i → j ≤ i) :
    Finset.univ.fold IntOp.minsi 2147483647#32 (fun k : Fin 8192 => if P k then BitVec.ofNat 32 k.val else 8192#32) = BitVec.ofNat 32 j.val := by
  have hv : ∀ k : Fin 8192, (BitVec.ofNat 32 k.val).toInt = k.val := fun k => by
    have := k.isLt
    rw [BitVec.toInt_eq_toNat_cond, BitVec.toNat_ofNat]
    omega
  apply BitVec.eq_of_toInt_eq
  rw [toInt_fold_minsi, hv]
  apply le_antisymm
  · refine (Finset.fold_min_le _).mpr (Or.inr ⟨j, Finset.mem_univ _, ?_⟩)
    rw [if_pos hj, hv]
  · refine (Finset.le_fold_min _).mpr ⟨?_, fun i _ => ?_⟩
    · have := j.isLt
      rw [show (2147483647#32).toInt = 2147483647 by decide]
      omega
    · split
      · next h => rw [hv]; exact_mod_cast hle i h
      · have := j.isLt
        rw [show (8192#32).toInt = 8192 by decide]
        omega

end Cert.Proof.Run.Picks

end
-- ==== Proof.IdealTopk.lean ====
/-
  At the ideal values: the rounds choose the columns that a stable sort by the similarity puts first.
-/
module

public import proofs.«01_k».proof.Proof.IdealSim
public import proofs.«01_k».proof.Proof.Picks

@[expose] public section

set_option maxRecDepth 16384

noncomputable section

namespace Cert.Proof.Run.IdealTopk

open Idealize.ShloMosaic Idealize.ShloMosaic.TcCoe
open Cert.KernelIdeal Cert.KernelIdeal.Gen

theorem inf_eq : Ideal.ofBits .f32 0x7F800000#32 = ⊤ := by
  simp [Ideal.ofBits, Ideal.ieee]
theorem ninf_eq : Ideal.ofBits .f32 0xFF800000#32 = ⊥ := by
  simp [Ideal.ofBits, Ideal.ieee]

theorem zero_sub_top : (0 : EReal) - ⊤ = ⊥ := by rw [sub_eq_add_neg, zero_add, EReal.neg_top]

theorem select_eq_word {α : Type} (a b : BitVec 32) (x y : α) : Scalar.select (IntOp.cmpi .eq a b) x y = if a = b then x else y := by
  by_cases h : a = b
  · subst h; simp [Scalar.select, IntOp.cmpi]
  · have hb : (a == b) = false := by simpa using h
    rw [if_neg h]
    simp [Scalar.select, IntOp.cmpi, hb]

theorem trips_eq : k1_t1_loop.trips = 64 := by decide

theorem iv_eq (k : ℕ) : Scf.iv 0#32 1#32 k = BitVec.ofNat 32 k := by
  rw [Scf.iv_eq_ofInt, show (0#32).toInt = 0 by decide, show (1#32).toInt = 1 by decide, mul_one, zero_add]
  rfl

theorem ofNat_inj {a b : ℕ} (ha : a < 8192) (hb : b < 8192) : BitVec.ofNat 32 a = BitVec.ofNat 32 b ↔ a = b := by
  constructor
  · intro h
    have := congrArg BitVec.toNat h
    rw [BitVec.toNat_ofNat, BitVec.toNat_ofNat] at this
    omega
  · rintro rfl; rfl

theorem pay1_eq (s : FVec Ideal S64x8192 .f32) : k1_pay1 s = s := by
  unfold k1_pay1; exact shapeCast_self _ _
theorem pay2_eq (s : FVec Ideal S64x8192 .f32) : k1_pay2 s = s := by
  unfold k1_pay2; rw [pay1_eq]; exact shapeCast_self _ _
theorem pay3_eq (s : FVec Ideal S64x8192 .f32) : k1_pay3 s = s := by
  unfold k1_pay3; rw [pay1_eq]; exact shapeCast_self _ _
theorem pay11_eq (v : FVec Ideal S64x1 .f32) (s : FVec Ideal S64x8192 .f32) : k1_pay11 v s = k1_pay9 v s := by
  unfold k1_pay11; exact shapeCast_self _ _
theorem pay12_eq (v : FVec Ideal S64x1 .f32) (s : FVec Ideal S64x8192 .f32) : k1_pay12 v s = k1_pay10 v s := by
  unfold k1_pay12; exact shapeCast_self _ _

theorem pay4_apply (s : FVec Ideal S64x8192 .f32) (b : Fin 64) :
    k1_pay4 s (ix2 b (0 : Fin 1)) = Finset.univ.fold max ⊥ (fun k : Fin 8192 => s (ix2 b k)) := by
  pointwise [k1_pay4, k1_pay1, ninf_eq]
theorem pay5_apply (s : FVec Ideal S64x8192 .f32) (b : Fin 64) :
    k1_pay5 s (ix2 b (0 : Fin 1)) = Finset.univ.fold min ⊤ (fun k : Fin 8192 => s (ix2 b k)) := by
  pointwise [k1_pay5, k1_pay1, inf_eq]

theorem pay7_apply (v : FVec Ideal S64x1 .f32) (s : FVec Ideal S64x8192 .f32) (b : Fin 64) :
    k1_pay7 v s (ix2 b (0 : Fin 1)) = Finset.univ.fold IntOp.minsi 2147483647#32
      (fun k : Fin 8192 => if s (ix2 b k) = v (ix2 b (0 : Fin 1)) then BitVec.ofNat 32 k.val else 8192#32) := by
  pointwise [k1_pay7]
theorem pay8_apply (v : FVec Ideal S64x1 .f32) (s : FVec Ideal S64x8192 .f32) (b : Fin 64) :
    k1_pay8 v s (ix2 b (0 : Fin 1)) = Finset.univ.fold IntOp.minsi 2147483647#32
      (fun k : Fin 8192 => if s (ix2 b k) = v (ix2 b (0 : Fin 1)) then BitVec.ofNat 32 k.val else 8192#32) := by
  pointwise [k1_pay8]

theorem pay9_apply (v : FVec Ideal S64x1 .f32) (s : FVec Ideal S64x8192 .f32) (b : Fin 64) (n : Fin 8192) :
    k1_pay9 v s (ix2 b n) = if BitVec.ofNat 32 n.val = k1_pay7 v s (ix2 b (0 : Fin 1)) then ⊥ else s (ix2 b n) := by
  pointwise [k1_pay9, inf_eq]
  rw [select_eq_word, zero_sub_top]
theorem pay10_apply (v : FVec Ideal S64x1 .f32) (s : FVec Ideal S64x8192 .f32) (b : Fin 64) (n : Fin 8192) :
    k1_pay10 v s (ix2 b n) = if BitVec.ofNat 32 n.val = k1_pay8 v s (ix2 b (0 : Fin 1)) then ⊤ else s (ix2 b n) := by
  pointwise [k1_pay10, inf_eq]
  rw [select_eq_word]

theorem pay13_apply (v : FVec Ideal S64x1 .f32) (s : FVec Ideal S64x8192 .f32) (b : Fin 64) :
    k1_pay13 v s (ix2 b (0 : Fin 1)) = Finset.univ.fold max ⊥ (fun k : Fin 8192 => k1_pay9 v s (ix2 b k)) := by
  pointwise [k1_pay13, ninf_eq]
theorem pay14_apply (v : FVec Ideal S64x1 .f32) (s : FVec Ideal S64x8192 .f32) (b : Fin 64) :
    k1_pay14 v s (ix2 b (0 : Fin 1)) = Finset.univ.fold min ⊤ (fun k : Fin 8192 => k1_pay10 v s (ix2 b k)) := by
  pointwise [k1_pay14, inf_eq]

theorem pay16_apply (k : Fin k1_t1_loop.trips) (t : IVec S64x64 32) (v : FVec Ideal S64x1 .f32) (s : FVec Ideal S64x8192 .f32) (b : Fin 64) (j : Fin 64) :
    k1_pay16 k t v s (ix2 b j) = if BitVec.ofNat 32 j.val = BitVec.ofNat 32 k.val then k1_pay7 v s (ix2 b (0 : Fin 1)) else t (ix2 b j) := by
  pointwise [k1_pay16, k1_pay15]
  rw [select_eq_word, iv_eq]
theorem pay17_apply (k : Fin k1_t1_loop.trips) (t : IVec S64x64 32) (v : FVec Ideal S64x1 .f32) (s : FVec Ideal S64x8192 .f32) (b : Fin 64) (j : Fin 64) :
    k1_pay17 k t v s (ix2 b j) = if BitVec.ofNat 32 j.val = BitVec.ofNat 32 k.val then k1_pay8 v s (ix2 b (0 : Fin 1)) else t (ix2 b j) := by
  pointwise [k1_pay17, k1_pay15]
  rw [select_eq_word, iv_eq]

/-- The order of a row: greater first, equal ones by their columns. -/
def ord (f : Fin 8192 → EReal) : Fin 8192 → Fin 8192 :=
  sortedFrom fun a c => FloatOps.cmpfTotal (F := Ideal) (φ := .f32) .gt (f a) (f c) == 1#1

theorem topk_apply (x : FVec Ideal S64x8192 .f32) (h : S64x8192.Slices (fun _ => 0) S64x64) (b : Fin 64) (j : Fin 64) :
    (Host.topK S64x64 1 (FloatOps.cmpfTotal (F := Ideal) (φ := .f32) .gt) x h).2 (ix2 b j)
      = BitVec.ofNat 32 (ord (fun a => x (ix2 b a)) (j.castLE (by decide))).val := by
  unfold Host.topK Host.sort2 ord
  pointwise
  have e : ∀ (p : Fin 8192) (k : Fin 8192), (ix2 b p : S64x8192.Idx).along (1 : Fin 2) k = ix2 b k := fun p k => by
    funext a
    fin_cases a <;> rfl
  simp only [e]
  rfl

theorem gt_iff (a c : EReal) : (FloatOps.cmpfTotal (F := Ideal) (φ := .f32) .gt a c == 1#1) = true ↔ c < a := by
  show (Ideal.cmp .ogt a c == 1#1) = true ↔ _
  by_cases h : c < a <;> simp [Ideal.cmp, h]

theorem ord_surj (f : Fin 8192 → EReal) : Function.Surjective (ord f) := sortedFrom_surjective _

theorem ord_inj (f : Fin 8192 → EReal) : Function.Injective (ord f) := sortedFrom_injective _

theorem ord_lex (f : Fin 8192 → EReal) (i j : Fin 8192) (h : i < j) : Picks.Lex f (ord f i) (ord f j) :=
  Picks.sorted_lex f _ (fun a c => gt_iff (f a) (f c)) i j h

open IdealSim (IsReal)

/-- The rounds of the greatest, at row `b`: before round `n` the first `n` columns are chosen and marked, and the carried value is
    the greatest of what is left. -/
theorem top_inv (x : FVec Ideal S64x8192 .f32) (b : Fin 64) (hx : ∀ a : Fin 8192, IsReal (x (ix2 b a))) (n : ℕ) (hn : n ≤ 64) :
    (∀ j : Fin 64, (Topk.rounds (Topk.start x) n).1.1 (ix2 b j)
        = if j.val < n then BitVec.ofNat 32 (ord (fun a => x (ix2 b a)) (j.castLE (by decide))).val else 0#32)
    ∧ (∀ i : Fin 8192, (Topk.rounds (Topk.start x) n).2.1 (ix2 b (ord (fun a => x (ix2 b a)) i))
        = if i.val < n then ⊥ else x (ix2 b (ord (fun a => x (ix2 b a)) i)))
    ∧ IsGreatest (Set.range fun a : Fin 8192 => (Topk.rounds (Topk.start x) n).2.1 (ix2 b a)) ((Topk.rounds (Topk.start x) n).1.2.2.1 (ix2 b (0 : Fin 1))) := by
  induction n with
  | zero =>
    refine ⟨fun j => ?_, fun i => ?_, ?_⟩
    · rw [if_neg (Nat.not_lt_zero _)]; rfl
    · rw [if_neg (Nat.not_lt_zero _)]
      exact congrFun (pay2_eq x) _
    · simp only [Topk.rounds, Topk.start]
      rw [pay2_eq, pay4_apply]
      exact Picks.fold_max_greatest _
  | succ n ih =>
    obtain ⟨h₁, h₂, h₃⟩ := ih (by omega)
    have hlt : n < k1_t1_loop.trips := by rw [trips_eq]; omega
    rw [Topk.rounds_succ (Topk.start x) ⟨n, hlt⟩]
    simp only [Topk.next]
    generalize hr : Topk.rounds (Topk.start x) n = r at h₁ h₂ h₃ ⊢
    obtain ⟨p₁, p₂⟩ := Picks.pick (fun a => x (ix2 b a)) (ord fun a => x (ix2 b a)) (ord_surj _) (ord_lex _) ⊥
      (fun j => by obtain ⟨y, hy⟩ := hx j; rw [hy]; exact EReal.bot_lt_coe y) ⟨n, by omega⟩ (fun a => r.2.1 (ix2 b a)) h₂ _ h₃
    have h7 : k1_pay7 r.1.2.2.1 r.2.1 (ix2 b (0 : Fin 1)) = BitVec.ofNat 32 (ord (fun a => x (ix2 b a)) ⟨n, by omega⟩).val := by
      rw [pay7_apply]
      exact Picks.fold_first (fun a => r.2.1 (ix2 b a) = r.1.2.2.1 (ix2 b (0 : Fin 1))) _ p₁ p₂
    refine ⟨fun j => ?_, fun i => ?_, ?_⟩
    · rw [pay16_apply, h7, h₁]
      have hj := j.isLt
      simp only [ofNat_inj (show j.val < 8192 by omega) (show n < 8192 by omega)]
      rcases lt_trichotomy j.val n with h | h | h
      · rw [if_neg h.ne, if_pos h, if_pos (by omega)]
      · rw [if_pos h, if_pos (by omega)]
        subst h; rfl
      · rw [if_neg h.ne', if_neg (by omega), if_neg (by omega)]
    · rw [pay11_eq, pay9_apply, h7, h₂]
      have hi := i.isLt
      simp only [ofNat_inj (Fin.isLt _) (Fin.isLt _), Fin.val_inj, (ord_inj _).eq_iff]
      rcases lt_trichotomy i.val n with h | h | h
      · rw [if_neg (fun e => h.ne (congrArg Fin.val e)), if_pos h, if_pos (by omega)]
      · rw [if_pos (Fin.ext h), if_pos (by omega)]
      · rw [if_neg (fun e => h.ne' (congrArg Fin.val e)), if_neg (by omega), if_neg (by omega)]
    · rw [pay11_eq, pay13_apply]
      exact Picks.fold_max_greatest _

theorem top_eq (x : FVec Ideal S64x8192 .f32) (hx : ∀ (b : Fin 64) (a : Fin 8192), IsReal (x (ix2 b a))) (h : S64x8192.Slices (fun _ => 0) S64x64) :
    (Topk.final x).1.1 = (Host.topK S64x64 1 (FloatOps.cmpfTotal (F := Ideal) (φ := .f32) .gt) x h).2 := by
  funext y
  have hy : ix2 (y 0) (y 1) = y := ix2_eta y
  have h' : (Topk.final x).1.1 (ix2 (y 0) (y 1)) = (Host.topK S64x64 1 (FloatOps.cmpfTotal (F := Ideal) (φ := .f32) .gt) x h).2 (ix2 (y 0) (y 1)) := by
    refine ((top_inv x (y 0) (hx (y 0)) k1_t1_loop.trips trips_eq.le).1 (y 1)).trans ?_
    rw [if_pos (by rw [trips_eq]; exact (y 1).isLt)]
    exact (topk_apply x h (y 0) (y 1)).symm
  exact hy ▸ h'

theorem least_neg {n : ℕ} (f : Fin n → EReal) (mn : EReal) (h : IsLeast (Set.range f) mn) : IsGreatest (Set.range fun a => -(f a)) (-mn) := by
  constructor
  · obtain ⟨k, hk⟩ := h.1
    exact ⟨k, congrArg Neg.neg hk⟩
  · rintro _ ⟨k, rfl⟩
    exact EReal.neg_le_neg_iff.mpr (h.2 ⟨k, rfl⟩)

/-- The rounds of the least, at row `b`: the same with the order of the negated row. -/
theorem bot_inv (x : FVec Ideal S64x8192 .f32) (b : Fin 64) (hx : ∀ a : Fin 8192, IsReal (x (ix2 b a))) (n : ℕ) (hn : n ≤ 64) :
    (∀ j : Fin 64, (Topk.rounds (Topk.start x) n).1.2.1 (ix2 b j)
        = if j.val < n then BitVec.ofNat 32 (ord (fun a => -(x (ix2 b a) : EReal)) (j.castLE (by decide))).val else 0#32)
    ∧ (∀ i : Fin 8192, (Topk.rounds (Topk.start x) n).2.2 (ix2 b (ord (fun a => -(x (ix2 b a) : EReal)) i))
        = if i.val < n then ⊤ else x (ix2 b (ord (fun a => -(x (ix2 b a) : EReal)) i)))
    ∧ IsLeast (Set.range fun a : Fin 8192 => ((Topk.rounds (Topk.start x) n).2.2 (ix2 b a) : EReal)) ((Topk.rounds (Topk.start x) n).1.2.2.2 (ix2 b (0 : Fin 1))) := by
  induction n with
  | zero =>
    refine ⟨fun j => ?_, fun i => ?_, ?_⟩
    · rw [if_neg (Nat.not_lt_zero _)]; rfl
    · rw [if_neg (Nat.not_lt_zero _)]
      exact congrFun (pay3_eq x) _
    · simp only [Topk.rounds, Topk.start]
      rw [pay3_eq, pay5_apply]
      exact Picks.fold_min_least _
  | succ n ih =>
    obtain ⟨h₁, h₂, h₃⟩ := ih (by omega)
    have hlt : n < k1_t1_loop.trips := by rw [trips_eq]; omega
    rw [Topk.rounds_succ (Topk.start x) ⟨n, hlt⟩]
    simp only [Topk.next]
    generalize hr : Topk.rounds (Topk.start x) n = r at h₁ h₂ h₃ ⊢
    obtain ⟨p₁, p₂⟩ := Picks.pick (fun a => -(x (ix2 b a) : EReal)) (ord fun a => -(x (ix2 b a) : EReal)) (ord_surj _) (ord_lex _) ⊥
      (fun j => by obtain ⟨y, hy⟩ := hx j; rw [hy, ← EReal.coe_neg]; exact EReal.bot_lt_coe _) ⟨n, by omega⟩ (fun a => -(r.2.2 (ix2 b a) : EReal))
      (fun i => by rw [h₂]; split <;> rfl) _ (least_neg _ _ h₃)
    have h8 : k1_pay8 r.1.2.2.2 r.2.2 (ix2 b (0 : Fin 1)) = BitVec.ofNat 32 (ord (fun a => -(x (ix2 b a) : EReal)) ⟨n, by omega⟩).val := by
      rw [pay8_apply]
      exact Picks.fold_first (fun a => r.2.2 (ix2 b a) = r.1.2.2.2 (ix2 b (0 : Fin 1))) _ (neg_injective p₁) fun i hi => p₂ i (congrArg Neg.neg hi)
    refine ⟨fun j => ?_, fun i => ?_, ?_⟩
    · rw [pay17_apply, h8, h₁]
      have hj := j.isLt
      simp only [ofNat_inj (show j.val < 8192 by omega) (show n < 8192 by omega)]
      rcases lt_trichotomy j.val n with h | h | h
      · rw [if_neg h.ne, if_pos h, if_pos (by omega)]
      · rw [if_pos h, if_pos (by omega)]
        subst h; rfl
      · rw [if_neg h.ne', if_neg (by omega), if_neg (by omega)]
    · rw [pay12_eq, pay10_apply, h8, h₂]
      have hi := i.isLt
      simp only [ofNat_inj (Fin.isLt _) (Fin.isLt _), Fin.val_inj, (ord_inj _).eq_iff]
      rcases lt_trichotomy i.val n with h | h | h
      · rw [if_neg (fun e => h.ne (congrArg Fin.val e)), if_pos h, if_pos (by omega)]
      · rw [if_pos (Fin.ext h), if_pos (by omega)]
      · rw [if_neg (fun e => h.ne' (congrArg Fin.val e)), if_neg (by omega), if_neg (by omega)]
    · rw [pay12_eq, pay14_apply]
      exact Picks.fold_min_least _

theorem bot_eq (x : FVec Ideal S64x8192 .f32) (hx : ∀ (b : Fin 64) (a : Fin 8192), IsReal (x (ix2 b a))) (h : S64x8192.Slices (fun _ => 0) S64x64) :
    (Topk.final x).1.2.1 = (Host.topK S64x64 1 (FloatOps.cmpfTotal (F := Ideal) (φ := .f32) .gt) (Host.negf x) h).2 := by
  funext y
  have hy : ix2 (y 0) (y 1) = y := ix2_eta y
  have h' : (Topk.final x).1.2.1 (ix2 (y 0) (y 1)) = (Host.topK S64x64 1 (FloatOps.cmpfTotal (F := Ideal) (φ := .f32) .gt) (Host.negf x) h).2 (ix2 (y 0) (y 1)) := by
    refine ((bot_inv x (y 0) (hx (y 0)) k1_t1_loop.trips trips_eq.le).1 (y 1)).trans ?_
    rw [if_pos (by rw [trips_eq]; exact (y 1).isLt)]
    exact (topk_apply (Host.negf x) h (y 0) (y 1)).symm
  exact hy ▸ h'

/-- A chosen column is a column. -/
theorem topk_lt (x : FVec Ideal S64x8192 .f32) (h : S64x8192.Slices (fun _ => 0) S64x64) (y : S64x64.Idx) :
    ((Host.topK S64x64 1 (FloatOps.cmpfTotal (F := Ideal) (φ := .f32) .gt) x h).2 y).toNat < 8192 := by
  have hy : ix2 (y 0) (y 1) = y := ix2_eta y
  have h' := topk_apply x h (y 0) (y 1)
  refine hy ▸ (?_ : ((Host.topK S64x64 1 (FloatOps.cmpfTotal (F := Ideal) (φ := .f32) .gt) x h).2 (ix2 (y 0) (y 1))).toNat < 8192)
  rw [h', BitVec.toNat_ofNat]
  exact lt_of_le_of_lt (Nat.mod_le _ _) (Fin.isLt _)

end Cert.Proof.Run.IdealTopk

end
-- ==== Proof.IdealGather.lean ====
/-
  At the ideal values: the gathered rows are the reference's.
-/
module

public import proofs.«01_k».proof.Proof.IdealTopk

@[expose] public section

set_option maxRecDepth 16384

noncomputable section

namespace Cert.Proof.Run.IdealGather

open Idealize.ShloMosaic Idealize.ShloMosaic.TcCoe

section Reference
open Cert.ReferenceIdeal Cert.ReferenceIdeal.Gen

/-- The reference's index array: a negative index counted from the end. -/
def wrap (I : IVec S64x64 32) : IVec S64x64x1 32 :=
  select (cmpi .slt (broadcastInDim S64x64x1 ![0, 1] bcast_S64x64_S64x64x1_0_1 I) (broadcastInDim S64x64x1 ![] bcast_S_S64x64x1 (constantI S_ 32 0#32))) (addi (broadcastInDim S64x64x1 ![0, 1] bcast_S64x64_S64x64x1_0_1 I) (broadcastInDim S64x64x1 ![] bcast_S_S64x64x1 (constantI S_ 32 8192#32))) (broadcastInDim S64x64x1 ![0, 1] bcast_S64x64_S64x64x1_0_1 I)

/-- The reference's rows of `A0` at the columns `I`. -/
def takeRef (A0 : FVec Ideal S64x8192x128 .f32) (I : IVec S64x64 32) : FVec Ideal S64x64x128 .f32 :=
  select (broadcastInDim S64x64x128 ![0, 1] bcast_S64x64_S64x64x128_0_1 (Host.reduce IntOp.andi (andi (cmpi .sge (wrap I) (broadcastInDim S64x64x1 ![] bcast_S_S64x64x1 (constantI S_ 32 0#32))) (cmpi .sle (wrap I) (broadcastInDim S64x64x1 ![0, 1, 2] bcast_S1x1x1_S64x64x1_0_1_2 (broadcastInDim S1x1x1 ![2] bcast_S1_S1x1x1_2 (constantI S1 32 8191#32))))) (constantI S_ 1 1#1) reducesTo_S64x64x1_S64x64_d2 h_S_)) (Host.gather gather_S64x8192x128_S64x64x1_S64x64x128_2_1_0_0_1_2_11128 A0 (wrap I)) (broadcastInDim S64x64x128 ![] bcast_S_S64x64x128 (constant S_ .f32 0x7FC00000#32))

theorem out0_eq (m : (ℓ : Loc nD τ sig) → Buf (Elt Ideal) ℓ) (c : Dev nD) :
    Cert.ReferenceIdeal.Value.res_main_v16 m c = takeRef (m ((c.tc : Thread nD τ).loc main_arg0))
      (Host.topK S64x64 1 (FloatOps.cmpfTotal (F := Ideal) (φ := .f32) .gt) (IdealSim.refSim (m ((c.tc : Thread nD τ).loc main_arg0)) (m ((c.tc : Thread nD τ).loc main_arg1))) sliceFits_S64x8192_S64x64).2 := rfl

theorem out1_eq (m : (ℓ : Loc nD τ sig) → Buf (Elt Ideal) ℓ) (c : Dev nD) :
    Cert.ReferenceIdeal.Value.res_main_v18 m c = takeRef (m ((c.tc : Thread nD τ).loc main_arg0))
      (Host.topK S64x64 1 (FloatOps.cmpfTotal (F := Ideal) (φ := .f32) .gt) (Host.negf (IdealSim.refSim (m ((c.tc : Thread nD τ).loc main_arg0)) (m ((c.tc : Thread nD τ).loc main_arg1)))) sliceFits_S64x8192_S64x64).2 := rfl

theorem toInt_of_lt {w : BitVec 32} (h : w.toNat < 8192) : w.toInt = w.toNat := by
  rw [BitVec.toInt_eq_toNat_cond, if_pos (by omega)]

theorem slt_zero {w : BitVec 32} (h : w.toNat < 8192) : IntOp.cmpi .slt w 0#32 = 0#1 := by
  have e : w.slt 0#32 = false := by
    rw [BitVec.slt, toInt_of_lt h]
    simp
  simp [IntOp.cmpi, e]

theorem sge_zero {w : BitVec 32} (h : w.toNat < 8192) : IntOp.cmpi .sge w 0#32 = 1#1 := by
  have e : (0#32).sle w = true := by
    rw [BitVec.sle, toInt_of_lt h]
    simp
  simp [IntOp.cmpi, e]

theorem sle_last {w : BitVec 32} (h : w.toNat < 8192) : IntOp.cmpi .sle w 8191#32 = 1#1 := by
  have e : w.sle 8191#32 = true := by
    rw [BitVec.sle, toInt_of_lt h, show (8191#32).toInt = 8191 by decide]
    exact decide_eq_true (by omega)
  simp [IntOp.cmpi, e]

theorem wrap_apply (I : IVec S64x64 32) (hI : ∀ y, (I y).toNat < 8192) (b j : Fin 64) : wrap I (ix3 b j (0 : Fin 1)) = I (ix2 b j) := by
  pointwise [wrap]
  rw [slt_zero (hI _)]
  rfl

theorem gather_apply (x : FVec Ideal S64x8192x128 .f32) (w : IVec S64x64x1 32) (b j : Fin 64) (c : Fin 128) (h : (w (ix3 b j (0 : Fin 1))).toNat < 8192) :
    Host.gather gather_S64x8192x128_S64x64x1_S64x64x128_2_1_0_0_1_2_11128 x w (ix3 b j c) = x (ix3 b (⟨(w (ix3 b j (0 : Fin 1))).toNat, h⟩ : Fin 8192) c) := by
  unfold Host.gather
  congr 1
  have hidx : ∀ k, gather_S64x8192x128_S64x64x1_S64x64x128_2_1_0_0_1_2_11128.siIdx (ix3 b j c) k = (ix3 b j (0 : Fin 1) : S64x64x1.Idx) := fun k => by
    funext a
    fin_cases a
    · rfl
    · rfl
    · exact Subsingleton.elim (α := Fin 1) _ _
  funext a
  apply Fin.ext
  fin_cases a
  · show 0 + b.val + 0 = b.val
    omega
  · show min (w (gather_S64x8192x128_S64x64x1_S64x64x128_2_1_0_0_1_2_11128.siIdx (ix3 b j c) _)).toInt.toNat (8192 - 1) + 0 + 0 = (w (ix3 b j (0 : Fin 1))).toNat
    rw [hidx, toInt_of_lt h]
    omega
  · show 0 + 0 + c.val = c.val
    omega

theorem takeRef_apply (A0 : FVec Ideal S64x8192x128 .f32) (I : IVec S64x64 32) (hI : ∀ y, (I y).toNat < 8192) (b j : Fin 64) (c : Fin 128) :
    takeRef A0 I (ix3 b j c) = A0 (ix3 b (⟨(I (ix2 b j)).toNat, hI _⟩ : Fin 8192) c) := by
  have hw := wrap_apply I hI b j
  have hl : (wrap I (ix3 b j (0 : Fin 1))).toNat < 8192 := hw ▸ hI _
  pointwise [takeRef]
  rw [gather_apply A0 (wrap I) b j c hl]
  rw [show (Finset.univ : Finset (Fin 1)) = {0} from rfl, Finset.fold_singleton, sge_zero hl, sle_last hl]
  have e : (⟨(wrap I (ix3 b j (0 : Fin 1))).toNat, hl⟩ : Fin 8192) = ⟨(I (ix2 b j)).toNat, hI _⟩ := Fin.ext (congrArg BitVec.toNat hw)
  rw [e]
  rfl

end Reference

open Cert.KernelIdeal Cert.KernelIdeal.Gen

theorem rowsOf_apply (ti bi : IVec S64x64 32) (p : Fin 8192) (h₁ : p.val / 64 < 64 → p.val % 64 < 64) (h₂ : p.val / 64 - 64 < 64) :
    rowsOf ti bi (ix1 p) = if h : p.val / 64 < 64 then ti (ix2 (⟨p.val / 64, h⟩ : Fin 64) (⟨p.val % 64, h₁ h⟩ : Fin 64)) + BitVec.ofNat 32 (p.val / 64) * 8192#32
      else bi (ix2 (⟨p.val / 64 - 64, h₂⟩ : Fin 64) (⟨p.val % 64, Nat.mod_lt _ (by decide)⟩ : Fin 64)) + BitVec.ofNat 32 (p.val / 64 - 64) * 8192#32 := by
  pointwise [rowsOf]
  rfl

theorem word_toNat {t : BitVec 32} {b : ℕ} (ht : t.toNat < 8192) (hb : b < 64) : (t + BitVec.ofNat 32 b * 8192#32).toNat = b * 8192 + t.toNat := by
  rw [BitVec.toNat_add, BitVec.toNat_mul, BitVec.toNat_ofNat, show (8192#32).toNat = 8192 from rfl]
  omega

theorem rowsOf_lt (ti bi : IVec S64x64 32) (ht : ∀ y, (ti y).toNat < 8192) (hb : ∀ y, (bi y).toNat < 8192) (p : Fin 8192) :
    (rowsOf ti bi (ix1 p)).toNat < 524288 := by
  have hp := p.isLt
  rw [rowsOf_apply _ _ _ (fun _ => Nat.mod_lt _ (by decide)) (by omega)]
  split
  · next h =>
    rw [word_toNat (ht _) h]
    have := ht (ix2 (⟨p.val / 64, h⟩ : Fin 64) (⟨p.val % 64, Nat.mod_lt _ (by decide)⟩ : Fin 64))
    omega
  · rw [word_toNat (hb _) (by omega)]
    have := hb (ix2 (⟨p.val / 64 - 64, by omega⟩ : Fin 64) (⟨p.val % 64, Nat.mod_lt _ (by decide)⟩ : Fin 64))
    omega

/-- Every row number the two column arrays give lies in the table. -/
theorem rowsOf_inRange (ti bi : IVec S64x64 32) (ht : ∀ y, (ti y).toNat < 8192) (hb : ∀ y, (bi y).toNat < 8192) (y : S8192.Idx) :
    (rowsOf ti bi y).toNat < 524288 := by
  have hy : ix1 (y 0) = y := ix1_eta y
  exact hy ▸ rowsOf_lt ti bi ht hb (y 0)

theorem gath_apply (x : S524288x128.Idx → EReal) (ix : S8192.Idx → BitVec 32) (p : Fin 8192) (c : Fin 128) :
    gath (F := Ideal) x ix (ix2 p c) = x (ix2 (rowOfWord (ix (ix1 p))) c) := by
  unfold gath
  congr 1
  funext a
  fin_cases a
  · show rowOfWord _ = rowOfWord _
    congr 2
    funext a
    fin_cases a
    rfl
  · rfl

/-- The table is the features with their first two axes run together. -/
theorem tbl_apply (x : S64x8192x128.Idx → EReal) (b : Fin 64) (n : Fin 8192) (c : Fin 128) (r : Fin 524288) (hr : r.val = b.val * 8192 + n.val) :
    (shapeCast S524288x128 x shapeCasts_S64x8192x128_S524288x128) (ix2 r c) = x (ix3 b n c) := by
  refine shapeCast_apply x _ _ _ ?_
  rw [Shape.rowMajor_val_three, Shape.rowMajor_val_two]
  show (b.val * 8192 + n.val) * 128 + c.val = r.val * 128 + c.val
  rw [hr]

theorem half0_apply (o : S8192x128.Idx → EReal) (b j : Fin 64) (c : Fin 128) (p : Fin 8192) (hp : p.val = b.val * 64 + j.val) :
    half0 (F := Ideal) o (ix3 b j c) = o (ix2 p c) := by
  unfold half0
  rw [shapeCast_apply _ _ (ix3 b j c) (ix4 (0 : Fin 1) b j c) (by
    rw [Shape.rowMajor_val_three, Shape.rowMajor_val_four]
    show ((0 * 64 + b.val) * 64 + j.val) * 128 + c.val = (b.val * 64 + j.val) * 128 + c.val
    omega)]
  rw [extractStridedSlice_apply _ _ _ (ix4 (0 : Fin 1) b j c) (ix4 (0 : Fin 2) b j c) (fun a => by
    fin_cases a
    · rfl
    · exact (Nat.zero_add _).symm
    · exact (Nat.zero_add _).symm
    · exact (Nat.zero_add _).symm)]
  refine shapeCast_apply o _ _ _ ?_
  rw [Shape.rowMajor_val_two, Shape.rowMajor_val_four]
  show p.val * 128 + c.val = ((0 * 64 + b.val) * 64 + j.val) * 128 + c.val
  omega

theorem half1_apply (o : S8192x128.Idx → EReal) (b j : Fin 64) (c : Fin 128) (p : Fin 8192) (hp : p.val = (64 + b.val) * 64 + j.val) :
    half1 (F := Ideal) o (ix3 b j c) = o (ix2 p c) := by
  unfold half1
  rw [shapeCast_apply _ _ (ix3 b j c) (ix4 (0 : Fin 1) b j c) (by
    rw [Shape.rowMajor_val_three, Shape.rowMajor_val_four]
    show ((0 * 64 + b.val) * 64 + j.val) * 128 + c.val = (b.val * 64 + j.val) * 128 + c.val
    omega)]
  rw [extractStridedSlice_apply _ _ _ (ix4 (0 : Fin 1) b j c) (ix4 (1 : Fin 2) b j c) (fun a => by
    fin_cases a
    · rfl
    · exact (Nat.zero_add _).symm
    · exact (Nat.zero_add _).symm
    · exact (Nat.zero_add _).symm)]
  refine shapeCast_apply o _ _ _ ?_
  rw [Shape.rowMajor_val_two, Shape.rowMajor_val_four]
  show p.val * 128 + c.val = ((1 * 64 + b.val) * 64 + j.val) * 128 + c.val
  omega

theorem half0_eq (x : FVec Ideal S64x8192x128 .f32) (ti bi : IVec S64x64 32) (ht : ∀ y, (ti y).toNat < 8192) :
    half0 (F := Ideal) (gath (F := Ideal) (shapeCast S524288x128 x shapeCasts_S64x8192x128_S524288x128) (rowsOf ti bi)) = takeRef x ti := by
  funext y
  have hy : ix3 (y 0) (y 1) (y 2) = y := ix3_eta y
  generalize y 0 = b at hy
  generalize y 1 = j at hy
  generalize y 2 = c at hy
  subst hy
  change Fin 64 at b
  change Fin 64 at j
  change Fin 128 at c
  have hb := b.isLt
  have hj := j.isLt
  have hw : rowsOf ti bi (ix1 (⟨b.val * 64 + j.val, by omega⟩ : Fin 8192)) = ti (ix2 b j) + BitVec.ofNat 32 b.val * 8192#32 := by
    rw [rowsOf_apply _ _ _ (fun _ => Nat.mod_lt _ (by decide)) (by dsimp only; omega)]
    have e₁ : (b.val * 64 + j.val) / 64 = b.val := by omega
    have e₂ : (b.val * 64 + j.val) % 64 = j.val := by omega
    simp only [e₁, e₂]
    rw [dif_pos hb]
  refine (half0_apply _ b j c (⟨b.val * 64 + j.val, by omega⟩ : Fin 8192) rfl).trans ?_
  refine (gath_apply _ _ _ _).trans ?_
  refine (tbl_apply x b (⟨(ti (ix2 b j)).toNat, ht _⟩ : Fin 8192) c _ ?_).trans (takeRef_apply x ti ht b j c).symm
  have hl := ht (ix2 b j)
  show (rowsOf ti bi (ix1 _)).toNat % 524288 = b.val * 8192 + (ti (ix2 b j)).toNat
  rw [hw, word_toNat hl hb]
  omega

theorem half1_eq (x : FVec Ideal S64x8192x128 .f32) (ti bi : IVec S64x64 32) (ht : ∀ y, (bi y).toNat < 8192) :
    half1 (F := Ideal) (gath (F := Ideal) (shapeCast S524288x128 x shapeCasts_S64x8192x128_S524288x128) (rowsOf ti bi)) = takeRef x bi := by
  funext y
  have hy : ix3 (y 0) (y 1) (y 2) = y := ix3_eta y
  generalize y 0 = b at hy
  generalize y 1 = j at hy
  generalize y 2 = c at hy
  subst hy
  change Fin 64 at b
  change Fin 64 at j
  change Fin 128 at c
  have hb := b.isLt
  have hj := j.isLt
  have hw : rowsOf ti bi (ix1 (⟨(64 + b.val) * 64 + j.val, by omega⟩ : Fin 8192)) = bi (ix2 b j) + BitVec.ofNat 32 b.val * 8192#32 := by
    rw [rowsOf_apply _ _ _ (fun _ => Nat.mod_lt _ (by decide)) (by dsimp only; omega)]
    have e₁ : ((64 + b.val) * 64 + j.val) / 64 = 64 + b.val := by omega
    have e₂ : ((64 + b.val) * 64 + j.val) % 64 = j.val := by omega
    have e₃ : 64 + b.val - 64 = b.val := by omega
    simp only [e₁, e₂, e₃]
    rw [dif_neg (by omega)]
  refine (half1_apply _ b j c (⟨(64 + b.val) * 64 + j.val, by omega⟩ : Fin 8192) rfl).trans ?_
  refine (gath_apply _ _ _ _).trans ?_
  refine (tbl_apply x b (⟨(bi (ix2 b j)).toNat, ht _⟩ : Fin 8192) c _ ?_).trans (takeRef_apply x bi ht b j c).symm
  have hl := ht (ix2 b j)
  show (rowsOf ti bi (ix1 _)).toNat % 524288 = b.val * 8192 + (bi (ix2 b j)).toNat
  rw [hw, word_toNat hl hb]
  omega

end Cert.Proof.Run.IdealGather

end
-- ==== Proof.lean ====
/-
  The proof of `Cert.Claim` (proofs.«01_k».proof.Defs): the two frames and the equality with the reference.

  `Run.run_main` (Proof/RunMain.lean) is the whole program's run, its SparseCore launch included, from any memory whose
  computed row numbers lie in the table; Proof/Values.lean reads the run's contents back as functions of the arguments.
  At the exact numbers the similarities are the reference's (Proof/IdealSim.lean) and real, the two loops' picks are the
  first columns of the reference's two stable sorts (Proof/IdealTopk.lean), so every column is below 8192, every row number
  is in the table, and the rows the SparseCore copies are the ones the reference takes (Proof/IdealGather.lean).
-/
module

public import proofs.«01_k».proof.Defs
public import proofs.«01_k».proof.Proof.Gen.KernelIdeal
public import proofs.«01_k».proof.Proof.Gen.ReferenceIdeal
public import proofs.«01_k».proof.Proof.Gen.ReferenceIdeal.Run
public import proofs.«01_k».proof.Proof.IdealGather
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.KernelIdeal Cert.KernelIdeal.Gen
open Cert.Proof.Run

section Values

variable (m : (ℓ : Loc nD τ sig) → Buf (Elt Ideal) ℓ)

/-- The similarities of the arguments at the exact numbers. -/
abbrev simOf (d : Dev nD) : FVec Ideal S64x8192 .f32 := IdealSim.refSim (feat m d) (proto m d)

/-- The columns of the largest and of the smallest similarities, as the reference picks them. -/
abbrev topOf (d : Dev nD) : IVec S64x64 32 :=
  (Host.topK S64x64 1 (FloatOps.cmpfTotal (F := Ideal) (φ := .f32) .gt) (simOf m d) Cert.ReferenceIdeal.Gen.sliceFits_S64x8192_S64x64).2
abbrev botOf (d : Dev nD) : IVec S64x64 32 :=
  (Host.topK S64x64 1 (FloatOps.cmpfTotal (F := Ideal) (φ := .f32) .gt) (Host.negf (simOf m d)) Cert.ReferenceIdeal.Gen.sliceFits_S64x8192_S64x64).2

theorem topOf_lt (d : Dev nD) (y : S64x64.Idx) : (topOf m d y).toNat < 8192 := IdealTopk.topk_lt (simOf m d) _ y
theorem botOf_lt (d : Dev nD) (y : S64x64.Idx) : (botOf m d y).toNat < 8192 := IdealTopk.topk_lt (Host.negf (simOf m d)) _ y

theorem sim_eq (d : Dev nD) : (shapeCast S64x8192 (sim2 m d) shapeCasts_S64x1x8192_S64x8192 : FVec Ideal S64x8192 .f32) = simOf m d :=
  (congrArg (fun s => shapeCast S64x8192 s shapeCasts_S64x1x8192_S64x8192) (sim2_eq m d)).trans (IdealSim.kerSim_eq (feat m d) (proto m d))

theorem cols_top (d : Dev nD) : (cols m d).1 = topOf m d :=
  (congrArg (·.1) (cols_eq m d)).trans ((congrArg (fun s => (Topk.final (F := Ideal) s).1.1) (sim_eq m d)).trans
    (IdealTopk.top_eq (simOf m d) (IdealSim.refSim_real (feat m d) (proto m d)) _))
theorem cols_bot (d : Dev nD) : (cols m d).2.1 = botOf m d :=
  (congrArg (·.2.1) (cols_eq m d)).trans ((congrArg (fun s => (Topk.final (F := Ideal) s).1.2.1) (sim_eq m d)).trans
    (IdealTopk.bot_eq (simOf m d) (IdealSim.refSim_real (feat m d) (proto m d)) _))

theorem rows_of (d : Dev nD) : rows m d = rowsOf (topOf m d) (botOf m d) :=
  (rows_eq m d).trans (congrArg₂ rowsOf (cols_top m d) (cols_bot m d))

/-- Every row number the program computes lies in the table. -/
theorem rows_inRange : InRange (F := Ideal) (rows m) := fun d y =>
  (congrArg (fun r : IVec S8192 32 => (r y).toNat) (rows_of m d)).trans_lt
    (IdealGather.rowsOf_inRange (topOf m d) (botOf m d) (topOf_lt m d) (botOf_lt m d) y)

theorem out_top (d : Dev nD) : half0 (F := Ideal) (gath (F := Ideal) (tbl m d) (rows m d)) = IdealGather.takeRef (feat m d) (topOf m d) := by
  rw [rows_of, tbl_eq]
  exact IdealGather.half0_eq (feat m d) (topOf m d) (botOf m d) (topOf_lt m d)
theorem out_bot (d : Dev nD) : half1 (F := Ideal) (gath (F := Ideal) (tbl m d) (rows m d)) = IdealGather.takeRef (feat m d) (botOf m d) := by
  rw [rows_of, tbl_eq]
  exact IdealGather.half1_eq (feat m d) (topOf m d) (botOf m d) (botOf_lt m d)

/-- The kernel's run at the exact numbers: the four results, the arguments kept, every semaphore back at zero. -/
theorem run_kernel (g : Dev nD → PrngReg) :
    θ_run (Cert.KernelIdeal.defs (F := Ideal)) (Cert.KernelIdeal.threads (F := Ideal)) ⟨m, fun _ => 0, g⟩ fun r =>
      (∀ c : Dev nD,
        r.2.mem ((c.tc : Thread nD τ).loc main_v19) = IdealGather.takeRef (feat m c) (topOf m c)
        ∧ r.2.mem ((c.tc : Thread nD τ).loc main_v21) = IdealGather.takeRef (feat m c) (botOf m c)
        ∧ r.2.mem ((c.tc : Thread nD τ).loc main_v4_0) = topOf m c
        ∧ r.2.mem ((c.tc : Thread nD τ).loc main_v4_1) = botOf m c
        ∧ r.2.mem ((c.tc : Thread nD τ).loc main_arg0) = m ((c.tc : Thread nD τ).loc main_arg0)
        ∧ r.2.mem ((c.tc : Thread nD τ).loc main_arg1) = m ((c.tc : Thread nD τ).loc main_arg1))
      ∧ r.2.sem = fun _ => 0 :=
  (θ_run _ _ _).mono (fun r h => ⟨fun c =>
      ⟨(h.1 c (Proc.devRef .tc main_v19) (by decide)).trans ((W7_rows0 m c).trans (out_top m c)),
        (h.1 c (Proc.devRef .tc main_v21) (by decide)).trans ((W7_rows1 m c).trans (out_bot m c)),
        (h.1 c (Proc.devRef .tc main_v4_0) (by decide)).trans ((W7_top m c).trans (cols_top m c)),
        (h.1 c (Proc.devRef .tc main_v4_1) (by decide)).trans ((W7_bot m c).trans (cols_bot m c)),
        (h.1 c (Proc.devRef .tc main_arg0) (by decide)).trans (W7_arg0 m c),
        (h.1 c (Proc.devRef .tc main_arg1) (by decide)).trans (W7_arg1 m c)⟩, h.2⟩)
    (run_main m g (rows_inRange m))

end Values

/-- The kernel's frame: its run, read at the arguments and at the counters. -/
theorem frame_kernel : Cert.quiescent_KernelIdeal := fun m g _ =>
  (θ_run _ _ _).mono (fun _ h => ⟨fun c => (h.1 c).2.2.2.2, h.2⟩) (run_kernel m g)

/-- The reference's frame: its run, read at the arguments; it declares no semaphore. -/
theorem frame_reference : Cert.quiescent_ReferenceIdeal := fun m g _ =>
  (θ_run _ _ _).mono (fun r h => ⟨fun c => (h c).2.2.2.2, Idealize.ShloMosaic.sem_eq_zero_of_no_sems (by decide) r.2⟩)
    (Cert.ReferenceIdeal.Value.run (F := Ideal) m g)

/-- The reference's run from a memory that agrees with `m` on the arguments: its four results are the kernel's. -/
theorem run_reference (m : (ℓ : Loc nD τ sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hm : ∀ c : Dev nD,
      m' ((c.tc : Thread Cert.ReferenceIdeal.nD Cert.ReferenceIdeal.τ).loc Cert.ReferenceIdeal.main_arg0) = feat m c
      ∧ m' ((c.tc : Thread Cert.ReferenceIdeal.nD Cert.ReferenceIdeal.τ).loc Cert.ReferenceIdeal.main_arg1) = proto m c) :
    θ_run (Cert.ReferenceIdeal.defs (F := Ideal)) (onTc (τ := Cert.ReferenceIdeal.τ) (Cert.ReferenceIdeal.main (F := Ideal))) ⟨m', fun _ => 0, g'⟩ fun r =>
      ∀ c : Dev Cert.ReferenceIdeal.nD,
        r.2.mem ((c.tc : Thread Cert.ReferenceIdeal.nD Cert.ReferenceIdeal.τ).loc Cert.ReferenceIdeal.main_v16) = IdealGather.takeRef (feat m c) (topOf m c)
        ∧ r.2.mem ((c.tc : Thread Cert.ReferenceIdeal.nD Cert.ReferenceIdeal.τ).loc Cert.ReferenceIdeal.main_v18) = IdealGather.takeRef (feat m c) (botOf m c)
        ∧ r.2.mem ((c.tc : Thread Cert.ReferenceIdeal.nD Cert.ReferenceIdeal.τ).loc Cert.ReferenceIdeal.main_indices) = topOf m c
        ∧ r.2.mem ((c.tc : Thread Cert.ReferenceIdeal.nD Cert.ReferenceIdeal.τ).loc Cert.ReferenceIdeal.main_indices_4) = botOf m c
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1) := by
  have hT (c : Dev nD) : (Host.topK S64x64 1 (FloatOps.cmpfTotal (F := Ideal) (φ := .f32) .gt)
      (IdealSim.refSim (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))) Cert.ReferenceIdeal.Gen.sliceFits_S64x8192_S64x64).2 = topOf m c := by
    rw [(hm c).1, (hm c).2]
  have hB (c : Dev nD) : (Host.topK S64x64 1 (FloatOps.cmpfTotal (F := Ideal) (φ := .f32) .gt)
      (Host.negf (IdealSim.refSim (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1)))) Cert.ReferenceIdeal.Gen.sliceFits_S64x8192_S64x64).2 = botOf m c := by
    rw [(hm c).1, (hm c).2]
  refine (θ_run _ _ _).mono (fun r h c => ?_) (Cert.ReferenceIdeal.Value.run (F := Ideal) m' g')
  obtain ⟨h0, h1, h2, h3, h4, h5⟩ := h c
  exact ⟨h0.trans ((IdealGather.out0_eq m' c).trans (congrArg₂ IdealGather.takeRef (hm c).1 (hT c))),
    h1.trans ((IdealGather.out1_eq m' c).trans (congrArg₂ IdealGather.takeRef (hm c).1 (hB c))),
    h2.trans (hT c), h3.trans (hB c), h4, h5⟩

/-- The kernel's four results are the reference's, at the exact numbers. -/
theorem algebraic : Cert.algebraic_KernelIdeal_ReferenceIdeal := fun m g m' g' _ hm =>
  ⟨fun c => IdealGather.takeRef (feat m c) (topOf m c), fun c => IdealGather.takeRef (feat m c) (botOf m c), topOf m, botOf m,
    (θ_run _ _ _).mono (fun _ h => h.1) (run_kernel m g), run_reference m m' g' hm⟩

theorem claim : Cert.Claim := ⟨Cert.KernelIdeal.Gen.facts, Cert.ReferenceIdeal.Gen.facts, frame_kernel, frame_reference, algebraic⟩

end Cert.Proof

end
